-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .bf16) (main_arg1 : FVec F S1024x4096 .bf16) (main_arg2 : FVec F S1x2048x8x128 .bf16) (main_arg3 : FVec F S1x2048x8x128 .bf16) (main_arg4 : FVec F S4096x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x8x128 .bf16 := Host.absf main_arg2
  let main_cst_2 : FVec F S_ .bf16 := constant S_ .bf16 0x7F80#16
  let main_v10 : FVec F S1x2048x8x128 .bf16 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_scores_finite_ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .bf16) (main_arg1 : FVec F S1024x4096 .bf16) (main_arg2 : FVec F S1x2048x32x128 .bf16) (main_arg3 : FVec F S1x2048x32x128 .bf16) (main_arg4 : FVec F S4096x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .bf16 := Host.absf main_arg1
  let main_cst_0 : FVec F S_ .bf16 := constant S_ .bf16 0x7F80#16
  let main_v5 : FVec F S1024x4096 .bf16 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x2048x32x128 .bf16 := Host.absf main_arg2
  let main_cst_2 : FVec F S_ .bf16 := constant S_ .bf16 0x7F80#16
  let main_v10 : FVec F S1x2048x32x128 .bf16 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x4096 : Shape := ⟨2, ![1024, 4096]⟩
abbrev S1x2048x8x128 : Shape := ⟨4, ![1, 2048, 8, 128]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩
abbrev S2048x8x128 : Shape := ⟨3, ![2048, 8, 128]⟩
abbrev S8x2048x128 : Shape := ⟨3, ![8, 2048, 128]⟩
abbrev S3x256x1024 : Shape := ⟨3, ![3, 256, 1024]⟩
abbrev S1x256x1024 : Shape := ⟨3, ![1, 256, 1024]⟩
abbrev S6 : Shape := ⟨1, ![6]⟩
abbrev S256x1024 : Shape := ⟨2, ![256, 1024]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S256 : Shape := ⟨1, ![256]⟩
abbrev S256x1 : Shape := ⟨2, ![256, 1]⟩
abbrev S1 : Shape := ⟨1, ![1]⟩

abbrev nBuf : Space → Nat
  | .hbm => 35
  | .vmem => 16
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x8x128, .bf16⟩
  | .hbm, ⟨3, _⟩ => ⟨S1x2048x8x128, .bf16⟩
  | .hbm, ⟨4, _⟩ => ⟨S4096x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1024x1024, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1024x1024, .bf16⟩
  | .hbm, ⟨30, _⟩ => ⟨S2048x8x128, .bf16⟩
  | .hbm, ⟨31, _⟩ => ⟨S8x2048x128, .bf16⟩
  | .hbm, ⟨32, _⟩ => ⟨S2048x8x128, .bf16⟩
  | .hbm, ⟨33, _⟩ => ⟨S8x2048x128, .bf16⟩
  | .hbm, ⟨34, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S8x2048x128, .bf16⟩
  | .local _ .vmem, ⟨3, _⟩ => ⟨S8x2048x128, .bf16⟩
  | .local _ .vmem, ⟨4, _⟩ => ⟨S1024x1024, .bf16⟩
  | .local _ .vmem, ⟨5, _⟩ => ⟨S1x2048x1024, .f32⟩
  | .local _ .vmem, ⟨6, _⟩ => ⟨S2048x1024, .bf16⟩
  | .local _ .vmem, ⟨7, _⟩ => ⟨S2048x1024, .bf16⟩
  | .local _ .vmem, ⟨8, _⟩ => ⟨S3x256x1024, .bf16⟩
  | .local _ .vmem, ⟨9, _⟩ => ⟨S3x256x1024, .bf16⟩
  | .local _ .vmem, ⟨10, _⟩ => ⟨S1x256x1024, .bf16⟩
  | .local _ .vmem, ⟨11, _⟩ => ⟨S3x256x1024, .bf16⟩
  | .local _ .vmem, ⟨12, _⟩ => ⟨S3x256x1024, .bf16⟩
  | .local _ .vmem, ⟨13, _⟩ => ⟨S3x256x1024, .bf16⟩
  | .local _ .vmem, ⟨14, _⟩ => ⟨S1x256x1024, .bf16⟩
  | .local _ .vmem, ⟨15, _⟩ => ⟨S3x256x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_1318 : BitVec 32) : Fin 3 → Nat :=
  let c0_1321 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2381 : BitVec 32 := Scalar.addi v2 c0_i32_1318
  let c8_i32 : BitVec 32 := 8#32
  let v2382 : BitVec 32 := Scalar.addi v2381 c8_i32
  let c4_i32_1319 : BitVec 32 := 4#32
  let v2383 : BitVec 32 := Scalar.remsi v2382 c4_i32_1319
  let c512_i32_1320 : BitVec 32 := 512#32
  let v2384 : BitVec 32 := Scalar.muli v2383 c512_i32_1320
  let v2385 : Index := Scalar.indexCast v2384
  let c0_1322 : Index := 0#32
  ![0, v2385.toNat, 0]
def k0_off1_at (r : Fin 4) : BitVec 32 :=
  if r.val < 2 then
    if r.val < 1 then
      0#32
    else
      4294967295#32
  else
    if r.val < 3 then
      4294967294#32
    else
      4294967293#32
def k0_off2 (d0 : Dev nD) (c0_i32_1326 : BitVec 32) : Fin 3 → Nat :=
  let c0_1331 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2392 : BitVec 32 := Scalar.addi v2 c0_i32_1326
  let c8_i32_1327 : BitVec 32 := 8#32
  let v2393 : BitVec 32 := Scalar.addi v2392 c8_i32_1327
  let c4_i32_1328 : BitVec 32 := 4#32
  let v2394 : BitVec 32 := Scalar.remsi v2393 c4_i32_1328
  let c512_i32_1329 : BitVec 32 := 512#32
  let v2395 : BitVec 32 := Scalar.muli v2394 c512_i32_1329
  let c256_i32_1330 : BitVec 32 := 256#32
  let v2396 : BitVec 32 := Scalar.addi v2395 c256_i32_1330
  let v2397 : Index := Scalar.indexCast v2396
  let c0_1332 : Index := 0#32
  ![0, v2397.toNat, 0]
def k0_dev3 (d0 : Dev nD) : Nat :=
  let c0_i32_1341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1340 : BitVec 32 := 1#32
  let v2404 : BitVec 32 := Scalar.muli v7 c1_i32_1340
  let v2405 : BitVec 32 := Scalar.addi c0_i32_1341 v2404
  v2405.toNat
def k0_dev4 (d0 : Dev nD) : Nat :=
  let c0_i32_1351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1350 : BitVec 32 := 1#32
  let v2414 : BitVec 32 := Scalar.muli v5 c1_i32_1350
  let v2415 : BitVec 32 := Scalar.addi c0_i32_1351 v2414
  v2415.toNat
def k0_dev5 (d0 : Dev nD) : Nat :=
  let c0_i32_1423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1422 : BitVec 32 := 1#32
  let v2483 : BitVec 32 := Scalar.muli v7 c1_i32_1422
  let v2484 : BitVec 32 := Scalar.addi c0_i32_1423 v2483
  v2484.toNat
def k0_dev6 (d0 : Dev nD) : Nat :=
  let c0_i32_1433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1432 : BitVec 32 := 1#32
  let v2493 : BitVec 32 := Scalar.muli v5 c1_i32_1432
  let v2494 : BitVec 32 := Scalar.addi c0_i32_1433 v2493
  v2494.toNat
def k0_dev7 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1504 : BitVec 32 := 1#32
  let v2562 : BitVec 32 := Scalar.muli v7 c1_i32_1504
  let v2563 : BitVec 32 := Scalar.addi c0_i32_1505 v2562
  v2563.toNat
def k0_dev8 (d0 : Dev nD) : Nat :=
  let c0_i32_1515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1514 : BitVec 32 := 1#32
  let v2572 : BitVec 32 := Scalar.muli v5 c1_i32_1514
  let v2573 : BitVec 32 := Scalar.addi c0_i32_1515 v2572
  v2573.toNat
def k0_dev9 (d0 : Dev nD) : Nat :=
  let c0_i32_1593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1592 : BitVec 32 := 1#32
  let v2652 : BitVec 32 := Scalar.muli v7 c1_i32_1592
  let v2653 : BitVec 32 := Scalar.addi c0_i32_1593 v2652
  v2653.toNat
def k0_dev10 (d0 : Dev nD) : Nat :=
  let c0_i32_1603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1602 : BitVec 32 := 1#32
  let v2662 : BitVec 32 := Scalar.muli v5 c1_i32_1602
  let v2663 : BitVec 32 := Scalar.addi c0_i32_1603 v2662
  v2663.toNat
def k0_dev11 (d0 : Dev nD) : Nat :=
  let c0_i32_1670 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1669 : BitVec 32 := 1#32
  let v2723 : BitVec 32 := Scalar.muli v7 c1_i32_1669
  let v2724 : BitVec 32 := Scalar.addi c0_i32_1670 v2723
  v2724.toNat
def k0_dev12 (d0 : Dev nD) : Nat :=
  let c0_i32_1680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1679 : BitVec 32 := 1#32
  let v2733 : BitVec 32 := Scalar.muli v5 c1_i32_1679
  let v2734 : BitVec 32 := Scalar.addi c0_i32_1680 v2733
  v2734.toNat
def k0_dev13 (d0 : Dev nD) : Nat :=
  let c0_i32_1746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1745 : BitVec 32 := 1#32
  let v2794 : BitVec 32 := Scalar.muli v7 c1_i32_1745
  let v2795 : BitVec 32 := Scalar.addi c0_i32_1746 v2794
  v2795.toNat
def k0_dev14 (d0 : Dev nD) : Nat :=
  let c0_i32_1756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1755 : BitVec 32 := 1#32
  let v2804 : BitVec 32 := Scalar.muli v5 c1_i32_1755
  let v2805 : BitVec 32 := Scalar.addi c0_i32_1756 v2804
  v2805.toNat
def k0_dev15 (d0 : Dev nD) : Nat :=
  let c0_i32_1820_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1819_r0 : BitVec 32 := 1#32
  let v2866_r0 : BitVec 32 := Scalar.muli v5 c1_i32_1819_r0
  let v2867_r0 : BitVec 32 := Scalar.addi c0_i32_1820_r0 v2866_r0
  v2867_r0.toNat
def k0_dev16 (d0 : Dev nD) : Nat :=
  let c0_i32_1823_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1822_r0 : BitVec 32 := 1#32
  let v2868_r0 : BitVec 32 := Scalar.muli v7 c1_i32_1822_r0
  let v2869_r0 : BitVec 32 := Scalar.addi c0_i32_1823_r0 v2868_r0
  v2869_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x4096 : Shape := ⟨2, ![1024, 4096]⟩
abbrev S1x2048x32x128 : Shape := ⟨4, ![1, 2048, 32, 128]⟩
abbrev S4096x1024 : Shape := ⟨2, ![4096, 1024]⟩
abbrev S1x2048x4096 : Shape := ⟨3, ![1, 2048, 4096]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x32x2048x2048 : Shape := ⟨4, ![1, 32, 2048, 2048]⟩
abbrev S1x1x2048x2048 : Shape := ⟨4, ![1, 1, 2048, 2048]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 62
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x4096, .bf16⟩
  | .hbm, ⟨2, _⟩ => ⟨S1x2048x32x128, .bf16⟩
  | .hbm, ⟨3, _⟩ => ⟨S1x2048x32x128, .bf16⟩
  | .hbm, ⟨4, _⟩ => ⟨S4096x1024, .bf16⟩
  | .hbm, ⟨5, _⟩ => ⟨S1x2048x1024, .f32⟩
  | .hbm, ⟨6, _⟩ => ⟨S1024x4096, .f32⟩
  | .hbm, ⟨7, _⟩ => ⟨S1x2048x32x128, .f32⟩
  | .hbm, ⟨8, _⟩ => ⟨S1x2048x32x128, .f32⟩
  | .hbm, ⟨9, _⟩ => ⟨S4096x1024, .f32⟩
  | .hbm, ⟨10, _⟩ => ⟨S1x2048x4096, .f32⟩
  | .hbm, ⟨11, _⟩ => ⟨S1x2048x32x128, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S1x32x2048x2048, .f32⟩
  | .hbm, ⟨24, _⟩ => ⟨S_, .f32⟩
  | .hbm, ⟨25, _⟩ => ⟨S1x32x2048x2048, .f32⟩
  | .hbm, ⟨26, _⟩ => ⟨S1x32x2048x2048, .f32⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S1x32x2048x2048, .i1⟩
  | .hbm, ⟨31, _⟩ => ⟨S1x32x2048x2048, .f32⟩
  | .hbm, ⟨32, _⟩ => ⟨S1x32x2048x2048, .f32⟩
  | .hbm, ⟨33, _⟩ => ⟨S_, .f32⟩
  | .hbm, ⟨34, _⟩ => ⟨S1x32x2048, .f32⟩
  | .hbm, ⟨35, _⟩ => ⟨S1x32x2048x1, .f32⟩
  | .hbm, ⟨36, _⟩ => ⟨S1x32x2048x2048, .f32⟩
  | .hbm, ⟨37, _⟩ => ⟨S1x32x2048x2048, .f32⟩
  | .hbm, ⟨38, _⟩ => ⟨S1x32x2048x2048, .f32⟩
  | .hbm, ⟨39, _⟩ => ⟨S_, .i1⟩
  | .hbm, ⟨40, _⟩ => ⟨S2048, .i1⟩
  | .hbm, ⟨41, _⟩ => ⟨S1x1x2048x1, .i1⟩
  | .hbm, ⟨42, _⟩ => ⟨S_, .f32⟩
  | .hbm, ⟨43, _⟩ => ⟨S1x32x2048, .f32⟩
  | .hbm, ⟨44, _⟩ => ⟨S1x32x2048x1, .f32⟩
  | .hbm, ⟨45, _⟩ => ⟨S_, .f32⟩
  | .hbm, ⟨46, _⟩ => ⟨S_, .f32⟩
  | .hbm, ⟨47, _⟩ => ⟨S1x32x2048x1, .i1⟩
  | .hbm, ⟨48, _⟩ => ⟨S1x32x2048x1, .f32⟩
  | .hbm, ⟨49, _⟩ => ⟨S1x32x2048x1, .f32⟩
  | .hbm, ⟨50, _⟩ => ⟨S1x32x2048x2048, .f32⟩
  | .hbm, ⟨51, _⟩ => ⟨S1x32x2048x2048, .f32⟩
  | .hbm, ⟨52, _⟩ => ⟨S1x1x2048x1, .i1⟩
  | .hbm, ⟨53, _⟩ => ⟨S_, .f32⟩
  | .hbm, ⟨54, _⟩ => ⟨S_, .f32⟩
  | .hbm, ⟨55, _⟩ => ⟨S1x32x2048x2048, .i1⟩
  | .hbm, ⟨56, _⟩ => ⟨S1x32x2048x2048, .f32⟩
  | .hbm, ⟨57, _⟩ => ⟨S1x32x2048x2048, .f32⟩
  | .hbm, ⟨58, _⟩ => ⟨S1x32x128x2048, .f32⟩
  | .hbm, ⟨59, _⟩ => ⟨S1x2048x32x128, .f32⟩
  | .hbm, ⟨60, _⟩ => ⟨S1x2048x4096, .f32⟩
  | .hbm, ⟨61, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

def κ : String → Option EReal := fun
  | "mask" => some ⊥
  | _ => none
-- ==== Proof.Ring.lean ====
module

public import proofs.«01_k».proof.Proof.Gen.KernelIdeal.Skeleton
public import Idealize.ShloMosaic.Lib.Tactic
public import Idealize.ShloMosaic.Lib.Rounds
public import Idealize.ShloMosaic.Lib.Pipeline.Kit
public import Idealize.ShloMosaic.Lib.Pipeline.Regions
public import Idealize.ShloMosaic.Lib.Pipeline.RegionTalk

@[expose] public section

/-! # The two rings of the kernel: who sends what to whom, and what each landing carries

The body reduces the projected rows in two rings at once. Direction `false` sends to the device on the right
and works on the upper half of every chunk of rows, direction `true` sends to the left and works on the lower
half. Each direction makes six exchanges: three that accumulate partial sums and three that pass the finished
chunks round. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's rounds beside the protocol's, whose duties are two per cell. -/
abbrev UP : Type := URounds (GSem nD τ sig) Unit
abbrev UQ : Type := URounds (GSem nD τ sig) Bool
abbrev UU : Type := UP × UQ

local notation "𝕄" => MT nD τ sig Unit (Elt F) ℕ UU ℕ

abbrev EP : Emb UP (MT nD τ sig Unit (Elt F) ℕ UU ℕ) := embL
abbrev ER : Emb UQ (MT nD τ sig Unit (Elt F) ℕ UU ℕ) := embR

/-- The contents of a memref's buffer on device `c`, and its ownership. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-! ## The devices -/

def nxt (c : Dev nD) : Dev nD := ⟨(c.val + 1) % 4, Nat.mod_lt _ (by decide)⟩
def prv (c : Dev nD) : Dev nD := ⟨(c.val + 3) % 4, Nat.mod_lt _ (by decide)⟩

/-- The neighbour a direction sends to. -/
def nb : Bool → Dev nD → Dev nD
  | false => nxt
  | true => prv

theorem nb_nb (d : Bool) (c : Dev nD) : nb d (nb (!d) c) = c := by revert d c; decide
theorem nb_nb' (d : Bool) (c : Dev nD) : nb (!d) (nb d c) = c := by revert d c; decide
/-- A direction as a permutation of the devices. -/
def nbEquiv (d : Bool) : Dev nD ≃ Dev nD := ⟨nb d, nb (!d), nb_nb' d, nb_nb d⟩

/-- The chunk direction `d` works on in its `k`-th step at device `c`: `k` places against the direction. -/
def chunk (d : Bool) : ℕ → Dev nD → Dev nD
  | 0, c => c
  | k + 1, c => nb (!d) (chunk d k c)

/-! ## The buffers and their slots -/

theorem slot_inb (k : Fin 3) : ∀ a, (![k.val, 0, 0] : Fin 3 → ℕ) a + S1x256x1024.size a ≤ S3x256x1024.size a := by
  revert k; decide

/-- Slot `k` of a three-slot buffer, and the slot of a one-slot buffer, as rectangles and as memrefs. -/
abbrev slotRect (k : Fin 3) : Rect S3x256x1024 := Rect.unit (s := S3x256x1024) ![k.val, 0, 0] S1x256x1024.size (slot_inb k)
abbrev oneRect : Rect S1x256x1024 := Rect.unit (s := S1x256x1024) ![0, 0, 0] S1x256x1024.size (by decide)
abbrev slot3 (M : Memref sig .tc .vmem S3x256x1024 .bf16) (k : Fin 3) : Memref sig .tc .vmem S256x1024 .bf16 :=
  (M.slice (slotRect k) (fun _ => rfl)).squeeze S256x1024 squeezes_S1x256x1024_S256x1024
abbrev slot1 (M : Memref sig .tc .vmem S1x256x1024 .bf16) : Memref sig .tc .vmem S256x1024 .bf16 :=
  (M.slice oneRect (fun _ => rfl)).squeeze S256x1024 squeezes_S1x256x1024_S256x1024

/-- The send, receive, gather-send and gather-receive buffers of a direction. -/
def rsS : Bool → Memref sig .tc .vmem S3x256x1024 .bf16
  | false => Memref.whole cc0_scratch2
  | true => Memref.whole cc0_scratch6
def rsR : Bool → Memref sig .tc .vmem S3x256x1024 .bf16
  | false => Memref.whole cc0_scratch3
  | true => Memref.whole cc0_scratch7
def agS : Bool → Memref sig .tc .vmem S1x256x1024 .bf16
  | false => Memref.whole cc0_scratch4
  | true => Memref.whole cc0_scratch8
def agR : Bool → Memref sig .tc .vmem S3x256x1024 .bf16
  | false => Memref.whole cc0_scratch5
  | true => Memref.whole cc0_scratch9

/-- What exchange `k` of a direction sends from, and what it lands in. -/
def srcM (d : Bool) : Fin 6 → Memref sig .tc .vmem S256x1024 .bf16
  | 0 => slot3 (rsS d) 0
  | 1 => slot3 (rsS d) 1
  | 2 => slot3 (rsS d) 2
  | 3 => slot1 (agS d)
  | 4 => slot3 (agR d) 0
  | 5 => slot3 (agR d) 1
def dstM (d : Bool) : Fin 6 → Memref sig .tc .vmem S256x1024 .bf16
  | 0 => slot3 (rsR d) 0
  | 1 => slot3 (rsR d) 1
  | 2 => slot3 (rsR d) 2
  | 3 => slot3 (agR d) 0
  | 4 => slot3 (agR d) 1
  | 5 => slot3 (agR d) 2

/-- A slot of device `c` at a value, and at contents not chosen. -/
def holds (c : Dev nD) (M : Memref sig .tc .vmem S256x1024 .bf16) (v : FVec F S256x1024 .bf16) : sProp 𝕄 :=
  iprop(∃ f : Bf F c M, ⌜M.view.read (Elt F) f = v⌝ ∗ M.view.loc (c : Thread nD τ) ↦[M.view.set]{fullShare} f)
def room (c : Dev nD) (M : Memref sig .tc .vmem S256x1024 .bf16) : sProp 𝕄 :=
  iprop(∃ f : Bf F c M, M.view.loc (c : Thread nD τ) ↦[M.view.set]{fullShare} f)

theorem room_of_holds (c : Dev nD) (M : Memref sig .tc .vmem S256x1024 .bf16) (v : FVec F S256x1024 .bf16) :
    (holds c M v : sProp 𝕄) ⊢ room c M := by
  unfold holds room
  iintro ⟨%f, -, H⟩; iexists f; iexact H

/-! ## The values that travel -/

/-- A row block of the product as it is first sent, a partial sum with one more block added, the finished sum
    as it stays, and a finished sum as it is stored on arrival. -/
def pkV (r : FVec F S1x256x1024 .f32) : FVec F S256x1024 .bf16 :=
  truncf .bf16 (shapeCast S256x1024 r shapeCasts_S1x256x1024_S256x1024) bitsLt_bf16_f32
def accV (v : FVec F S256x1024 .bf16) (r : FVec F S1x256x1024 .f32) : FVec F S256x1024 .bf16 :=
  truncf .bf16 (addf (extf .f32 v bitsLt_bf16_f32) (shapeCast S256x1024 r shapeCasts_S1x256x1024_S256x1024)) bitsLt_bf16_f32
def accF (v : FVec F S256x1024 .bf16) (r : FVec F S1x256x1024 .f32) : FVec F S1x256x1024 .f32 :=
  shapeCast S1x256x1024 (addf (extf .f32 v bitsLt_bf16_f32) (shapeCast S256x1024 r shapeCasts_S1x256x1024_S256x1024)) shapeCasts_S256x1024_S1x256x1024
def extF (v : FVec F S256x1024 .bf16) : FVec F S1x256x1024 .f32 :=
  shapeCast S1x256x1024 (extf .f32 v bitsLt_bf16_f32) shapeCasts_S256x1024_S1x256x1024

/-- The row blocks of every device's own product: by device, half and chunk. -/
abbrev Blocks (F : FTy → Type) : Type := Dev nD → Bool → Dev nD → FVec F S1x256x1024 .f32

variable (P : Blocks F)

/-- What device `c` sends in exchange `k` of direction `d`. -/
def sentN (d : Bool) : ℕ → Dev nD → FVec F S256x1024 .bf16
  | 0, c => pkV (P c d c)
  | k + 1, c => if k < 3 then accV (sentN d k (nb (!d) c)) (P c d (chunk d (k + 1) c)) else sentN d k (nb (!d) c)
def sent (d : Bool) (k : Fin 6) (c : Dev nD) : FVec F S256x1024 .bf16 := sentN P d k.val c

/-! ## The semaphore cells -/

/-- The semaphores of the call's own: the four arrays of six, and the one allocated for the last handshake. -/
def osem (i : Fin 25) : SemLoc sig :=
  if h : i.val < 24 then .dma ⟨6 + i.val, by show 6 + i.val < 30; omega⟩ else .reg ⟨1, by decide⟩
def sIx (d : Bool) (k : Fin 6) : Fin 25 := ⟨12 * d.toNat + k.val, by have := d.toNat_le; omega⟩
def rIx (d : Bool) (k : Fin 6) : Fin 25 := ⟨12 * d.toNat + 6 + k.val, by have := d.toNat_le; omega⟩
def eIx : Fin 25 := 24
def sendS (d : Bool) (k : Fin 6) : DmaSem sig := ⟨6 + (sIx d k).val, by have := d.toNat_le; show 6 + (12 * d.toNat + k.val) < 30; omega⟩
def recvS (d : Bool) (k : Fin 6) : DmaSem sig := ⟨6 + (rIx d k).val, by have := d.toNat_le; show 6 + (12 * d.toNat + 6 + k.val) < 30; omega⟩
def barS : Sem sig := ⟨0, by decide⟩
def endS : Sem sig := ⟨1, by decide⟩

abbrev cell (i : Fin 25) (c : Dev nD) : GSem nD τ sig := ((c : Thread nD τ), osem i)
abbrev barCell (c : Dev nD) : GSem nD τ sig := ((c : Thread nD τ), .reg barS)
abbrev sendCell (d : Bool) (k : Fin 6) (c : Dev nD) : GSem nD τ sig := ((c : Thread nD τ), .dma (sendS d k))
abbrev recvCell (d : Bool) (k : Fin 6) (c : Dev nD) : GSem nD τ sig := ((c : Thread nD τ), .dma (recvS d k))
abbrev endCell (c : Dev nD) : GSem nD τ sig := ((c : Thread nD τ), .reg endS)

theorem osem_send (d : Bool) (k : Fin 6) : osem (sIx d k) = .dma (sendS d k) := by
  cases d <;> fin_cases k <;> rfl
theorem osem_recv (d : Bool) (k : Fin 6) : osem (rIx d k) = .dma (recvS d k) := by
  cases d <;> fin_cases k <;> rfl
theorem osem_end : osem eIx = .reg endS := rfl
theorem cell_send (d : Bool) (k : Fin 6) (c : Dev nD) : cell (sIx d k) c = sendCell d k c := by unfold cell; rw [osem_send]
theorem cell_recv (d : Bool) (k : Fin 6) (c : Dev nD) : cell (rIx d k) c = recvCell d k c := by unfold cell; rw [osem_recv]
theorem cell_end (c : Dev nD) : cell eIx c = endCell c := rfl
theorem osem_inj : Function.Injective osem := by decide +kernel

/-! ## The schedule

The barrier cell of a device is paid by both neighbours, each handing over its own landing slots of the
direction that comes from this device and the record that the cells of those slots are open; the last handshake's
cell is paid by both, with nothing. A send cell is paid by the device's own copy with the source back, a receive
cell by the neighbour's copy with the slot at what was sent. -/

/-- The credit of one transfer. -/
abbrev N : ℕ := (dstM false 0).view.dmaCredit
theorem N_pos : 0 < N := View.dmaCredit_pos _ (by decide)
theorem dst_amount (d : Bool) (k : Fin 6) : (dstM d k).view.dmaCredit = N := by
  cases d <;> fin_cases k <;> rfl
theorem src_amount (d : Bool) (k : Fin 6) : (srcM d k).view.dmaCredit = N := by
  cases d <;> fin_cases k <;> rfl

/-- Paid to the barrier cell of `c` by its neighbour on side `d`. -/
def barPay (d : Bool) (c : Dev nD) : sProp 𝕄 :=
  iprop((bigSep Finset.univ fun k : Fin 6 => (room (nb d c) (dstM d k) : sProp 𝕄))
    ∗ (bigSep Finset.univ fun k : Fin 6 => (reached ER (recvCell d k (nb d c)) 0 : sProp 𝕄))
    ∗ reached ER (endCell (nb d c)) 0)
def sendPay (d : Bool) (k : Fin 6) (c : Dev nD) : sProp 𝕄 := holds c (srcM d k) (sent P d k c)
def recvPay (d : Bool) (k : Fin 6) (c : Dev nD) : sProp 𝕄 := holds c (dstM d k) (sent P d k (nb (!d) c))

/-- The payload of the own semaphore of index `i`: in arrays of six, send and receive by turns. -/
def ixPay (i : ℕ) (c : Dev nD) : sProp 𝕄 :=
  if (i / 6) % 2 = 0 then sendPay P (decide (12 ≤ i)) ⟨i % 6, Nat.mod_lt _ (by decide)⟩ c
  else recvPay P (decide (12 ≤ i)) ⟨i % 6, Nat.mod_lt _ (by decide)⟩ c

def semDuties : SemLoc sig → Finset Bool
  | .reg _ => Finset.univ
  | .dma q => if 6 ≤ q.val then {false} else ∅
def semAmount : SemLoc sig → ℕ
  | .reg _ => 1
  | .dma _ => N
def semPay (d : Bool) (c : Dev nD) : SemLoc sig → sProp 𝕄
  | .reg s => if s.val = 0 then barPay d c else iprop(emp)
  | .dma q => ixPay P (q.val - 6) c

def ringRd : Rounds.Schedule (GSem nD τ sig) Bool 𝕄 where
  duties g r := if r = 0 ∧ g.1.2 = .tc then semDuties g.2 else ∅
  unitless _ := False
  amount g _ _ := semAmount g.2
  payload g _ d := semPay P d g.1.1 g.2
  amount_pos g _ _ _ := by
    show 0 < semAmount g.2
    cases g.2
    · exact Nat.one_pos
    · exact N_pos

instance ringRd_payload_storable (g : GSem nD τ sig) (r : ℕ) (d : Bool) :
    BI.Storable (upEmb : UEmb _ 𝕄) ((ringRd P).payload g r d) := by
  show BI.Storable upEmb (semPay P d g.1.1 g.2)
  generalize g.2 = sm
  cases sm with
  | dma q => dsimp only [semPay]; unfold ixPay sendPay recvPay holds; split <;> infer_instance
  | reg q => dsimp only [semPay]; unfold barPay room; split <;> infer_instance

theorem duties_bar (c : Dev nD) : (ringRd P).duties (barCell c) 0 = Finset.univ := by dsimp only [ringRd]; exact if_pos ⟨rfl, rfl⟩
theorem duties_end (c : Dev nD) : (ringRd P).duties (endCell c) 0 = Finset.univ := by dsimp only [ringRd]; exact if_pos ⟨rfl, rfl⟩
theorem duties_send (d : Bool) (k : Fin 6) (c : Dev nD) : (ringRd P).duties (sendCell d k c) 0 = {false} := by
  dsimp only [ringRd]; rw [if_pos ⟨rfl, rfl⟩]; cases d <;> fin_cases k <;> rfl
theorem duties_recv (d : Bool) (k : Fin 6) (c : Dev nD) : (ringRd P).duties (recvCell d k c) 0 = {false} := by
  dsimp only [ringRd]; rw [if_pos ⟨rfl, rfl⟩]; cases d <;> fin_cases k <;> rfl
theorem duties_later (g : GSem nD τ sig) : ∀ r, 1 ≤ r → (ringRd P).duties g r = ∅ :=
  fun r hr => by dsimp only [ringRd]; exact if_neg fun h => by omega

theorem amount_bar (c : Dev nD) (u : Bool) : (ringRd P).amount (barCell c) 0 u = 1 := rfl
theorem amount_end (c : Dev nD) (u : Bool) : (ringRd P).amount (endCell c) 0 u = 1 := rfl
theorem amount_send (d : Bool) (k : Fin 6) (c : Dev nD) (u : Bool) : (ringRd P).amount (sendCell d k c) 0 u = N := by
  rfl
theorem amount_recv (d : Bool) (k : Fin 6) (c : Dev nD) (u : Bool) : (ringRd P).amount (recvCell d k c) 0 u = N := by
  rfl

theorem expect_bar (c : Dev nD) : (ringRd P).expect (barCell c) 0 = 2 := by
  unfold Schedule.expect Schedule.amountOf; rw [duties_bar]; rfl
theorem expect_end (c : Dev nD) : (ringRd P).expect (endCell c) 0 = 2 := by
  unfold Schedule.expect Schedule.amountOf; rw [duties_end]; rfl
theorem expect_send (d : Bool) (k : Fin 6) (c : Dev nD) : (ringRd P).expect (sendCell d k c) 0 = N := by
  unfold Schedule.expect Schedule.amountOf; rw [duties_send, Finset.sum_singleton, amount_send]
theorem expect_recv (d : Bool) (k : Fin 6) (c : Dev nD) : (ringRd P).expect (recvCell d k c) 0 = N := by
  unfold Schedule.expect Schedule.amountOf; rw [duties_recv, Finset.sum_singleton, amount_recv]

theorem payload_bar (c : Dev nD) (d : Bool) : (ringRd P).payload (barCell c) 0 d = barPay d c := by
  dsimp only [ringRd, semPay]; exact if_pos rfl
theorem payload_end (c : Dev nD) (d : Bool) : (ringRd P).payload (endCell c) 0 d = iprop(emp) := by
  dsimp only [ringRd, semPay]; exact if_neg (by decide)
theorem payload_send (d : Bool) (k : Fin 6) (c : Dev nD) (u : Bool) : (ringRd P).payload (sendCell d k c) 0 u = sendPay P d k c := by
  dsimp only [ringRd]; cases d <;> fin_cases k <;> rfl
theorem payload_recv (d : Bool) (k : Fin 6) (c : Dev nD) (u : Bool) : (ringRd P).payload (recvCell d k c) 0 u = recvPay P d k c := by
  dsimp only [ringRd]; cases d <;> fin_cases k <;> rfl

theorem rest_bar (c : Dev nD) : bigSep ((ringRd P).duties (barCell c) 0 \ ∅) (fun u => (ringRd P).payload (barCell c) 0 u)
    = (iprop(barPay false c ∗ barPay true c) : sProp 𝕄) := by
  rw [Finset.sdiff_empty, duties_bar, bigSep_eq_bigSepL_of_eq [false, true] (by decide) (by decide)]
  show iprop((ringRd P).payload (barCell c) 0 false ∗ (ringRd P).payload (barCell c) 0 true) = _
  rw [payload_bar, payload_bar]
theorem rest_send (d : Bool) (k : Fin 6) (c : Dev nD) :
    bigSep ((ringRd P).duties (sendCell d k c) 0 \ ∅) (fun u => (ringRd P).payload (sendCell d k c) 0 u) = (sendPay P d k c : sProp 𝕄) := by
  rw [Finset.sdiff_empty, duties_send, bigSep_singleton, payload_send]
theorem rest_recv (d : Bool) (k : Fin 6) (c : Dev nD) :
    bigSep ((ringRd P).duties (recvCell d k c) 0 \ ∅) (fun u => (ringRd P).payload (recvCell d k c) 0 u) = (recvPay P d k c : sProp 𝕄) := by
  rw [Finset.sdiff_empty, duties_recv, bigSep_singleton, payload_recv]

/-! ## What a device owes, and the levels -/

/-- Owed from the last `j` exchanges on: the two units of the last handshake, and a credit to either neighbour
    for every exchange still to make. -/
def due (c : Dev nD) : ℕ → CellTallies nD τ sig Unit
  | 0 => tallyAt (endCell (nxt c)) () 1 + tallyAt (endCell (prv c)) () 1
  | j + 1 => due c j + tallyAt (recvCell true ⟨5 - j, by omega⟩ (prv c)) () N + tallyAt (recvCell false ⟨5 - j, by omega⟩ (nxt c)) () N
def O₀ (c : Dev nD) : CellTallies nD τ sig Unit :=
  due c 6 + tallyAt (barCell (nxt c)) () 1 + tallyAt (barCell (prv c)) () 1

def L (g : GSem nD τ sig) : Finset Unit := if g.1.2 = .tc then {()} else ∅
def semLv : SemLoc sig → ℕ
  | .reg s => if s.val = 0 then 1 else 9
  | .dma q => if 6 ≤ q.val ∧ ((q.val - 6) / 6) % 2 = 1 then 2 + (q.val - 6) % 6 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_send (d : Bool) (k : Fin 6) : semLv (.dma (sendS d k)) = 0 := by cases d <;> fin_cases k <;> rfl
theorem lv_recv (d : Bool) (k : Fin 6) : semLv (.dma (recvS d k)) = 2 + k.val := by cases d <;> fin_cases k <;> rfl
theorem lv_end : semLv (.reg endS) = 9 := rfl

theorem tally_pos {g g' : GSem nD τ sig} {u : Unit} {n : ℕ} (h : 0 < tallyAt (Ix := Unit) g' () n g u) : g = g' := by
  rw [tallyAt_apply] at h
  split at h
  · next hg => exact hg.1
  · exact absurd h (Nat.lt_irrefl 0)

/-- Whatever is owed from the last `j` exchanges on is owed to a cell of the device's kind, above every receive
    cell waited on before. -/
theorem due_pos (c : Dev nD) : ∀ (j : ℕ) (_ : j ≤ 6) {g : GSem nD τ sig} {u : Unit}, 0 < due c j g u → u ∈ L g ∧ 8 - j ≤ lv g u
  | 0, _, g, u, h => by
    unfold due at h
    rw [Pi.add_apply, Finsupp.add_apply] at h
    rcases Nat.add_pos_iff_pos_or_pos.mp h with h | h <;> rw [tally_pos h] <;>
      exact ⟨by rw [L_tc]; exact Finset.mem_singleton_self _, (by decide : 8 - 0 ≤ semLv (.reg endS))⟩
  | j + 1, hj, g, u, h => by
    unfold due at h
    rw [Pi.add_apply, Finsupp.add_apply, Pi.add_apply, Finsupp.add_apply] at h
    rcases Nat.add_pos_iff_pos_or_pos.mp h with h | h
    · rcases Nat.add_pos_iff_pos_or_pos.mp h with h | h
      · exact ⟨(due_pos c j (by omega) h).1, le_trans (by omega) (due_pos c j (by omega) h).2⟩
      · rw [tally_pos h]
        refine ⟨by rw [L_tc]; exact Finset.mem_singleton_self _, ?_⟩
        show _ ≤ semLv (.dma (recvS _ _)); rw [lv_recv]; show 8 - (j + 1) ≤ 2 + (5 - j); omega
    · rw [tally_pos h]
      refine ⟨by rw [L_tc]; exact Finset.mem_singleton_self _, ?_⟩
      show _ ≤ semLv (.dma (recvS _ _)); rw [lv_recv]; show 8 - (j + 1) ≤ 2 + (5 - j); omega

theorem O₀_pos (c : Dev nD) {g : GSem nD τ sig} {u : Unit} (h : 0 < O₀ c g u) : u ∈ L g ∧ 1 ≤ lv g u := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact ⟨(due_pos c 6 le_rfl h).1, le_trans (by omega) (due_pos c 6 le_rfl h).2⟩
    · rw [tally_pos h]; exact ⟨by rw [L_tc]; exact Finset.mem_singleton_self _, (by decide : 1 ≤ semLv (.reg barS))⟩
  · rw [tally_pos h]; exact ⟨by rw [L_tc]; exact Finset.mem_singleton_self _, (by decide : 1 ≤ semLv (.reg barS))⟩

/-- A device may wait on a cell of its own below everything it owes. -/
theorem mayWait_due (c : Dev nD) (sm : SemLoc sig) (j : ℕ) (hj : j ≤ 6) (h : semLv sm < 8 - j) :
    (levAts L lv : sProp 𝕄) ⊢ MayWait (c : Thread nD τ) sm () (due c j) :=
  MayOwe.of_cut (L := L) (lev := lv) (semLv sm) (fun p hp => by rw [Finset.mem_singleton.mp hp, L_tc]; exact Finset.mem_singleton_self _)
    (fun g u hg => (due_pos c j hj hg).1)
    (fun p hp => by rw [Finset.mem_singleton.mp hp]; rfl)
    (fun g u hg => lt_of_lt_of_le h (due_pos c j hj hg).2)

end Cert.KernelIdeal.Hand

end
-- ==== Proof.Head.lean ====
module

public import proofs.«01_k».proof.Proof.Ring

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The last stores of the output projection. -/
noncomputable def headProg
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (M6 : Memref sig .tc .vmem S2048x1024 .bf16) (h6 : M6.IsWhole) (M7 : Memref sig .tc .vmem S2048x1024 .bf16) (h7 : M7.IsWhole)
    (M8 : Memref sig .tc .vmem S3x256x1024 .bf16) (h8 : M8.IsWhole) (M9 : Memref sig .tc .vmem S3x256x1024 .bf16) (h9 : M9.IsWhole)
    (M10 : Memref sig .tc .vmem S1x256x1024 .bf16) (h10 : M10.IsWhole) (M11 : Memref sig .tc .vmem S3x256x1024 .bf16) (h11 : M11.IsWhole)
    (M12 : Memref sig .tc .vmem S3x256x1024 .bf16) (h12 : M12.IsWhole) (M13 : Memref sig .tc .vmem S3x256x1024 .bf16) (h13 : M13.IsWhole)
    (M14 : Memref sig .tc .vmem S1x256x1024 .bf16) (h14 : M14.IsWhole) (M15 : Memref sig .tc .vmem S3x256x1024 .bf16) (h15 : M15.IsWhole)
    (A16 A17 A18 A19 : DmaSems sig S6) (A20 : Sems sig S_)
    (v2363 : FVec F S256x1024 .f32) : Prog (TpuEff nD τ sig (Elt F) Λ₀ .tc) PUnit := do
  let v2364 : Vec F S1x256x1024 .f32 ← Prog.lift (.load M5 (Rect.unit (s := S1x2048x1024) ![0, 1280, 0] S1x256x1024.size inb_S1x2048x1024_S1x256x1024_0_1280_0).toLoadRect (View.loadsAt_vmem h_S1x256x1024))
  Prog.lift (.store M5 (Rect.unit (s := S1x2048x1024) ![0, 1280, 0] S1x256x1024.size inb_S1x2048x1024_S1x256x1024_0_1280_0) (k0_pay200 v2363) Finset.univ (View.stores_vmem_bits_univ h_S1x256x1024 rfl) (.inl rfl))
  let v2367 : Vec F S256x1024 .bf16 ← Prog.lift (.load M7 (Rect.unit (s := S2048x1024) ![1536, 0] S256x1024.size inb_S2048x1024_S256x1024_1536_0).toLoadRect (View.loadsAt_vmem h_S256x1024))
  let v2368 : Vec F S1024x1024 .bf16 ← Prog.lift (.load M4 (Rect.unit (s := S1024x1024) ![0, 0] S1024x1024.size inb_S1024x1024_S1024x1024_0_0).toLoadRect (View.loadsAt_vmem h_S1024x1024))
  let v2371 : Vec F S1x256x1024 .f32 ← Prog.lift (.load M5 (Rect.unit (s := S1x2048x1024) ![0, 1536, 0] S1x256x1024.size inb_S1x2048x1024_S1x256x1024_0_1536_0).toLoadRect (View.loadsAt_vmem h_S1x256x1024))
  Prog.lift (.store M5 (Rect.unit (s := S1x2048x1024) ![0, 1536, 0] S1x256x1024.size inb_S1x2048x1024_S1x256x1024_0_1536_0) (k0_pay201 v2367 v2368) Finset.univ (View.stores_vmem_bits_univ h_S1x256x1024 rfl) (.inl rfl))
  let v2374 : Vec F S256x1024 .bf16 ← Prog.lift (.load M7 (Rect.unit (s := S2048x1024) ![1792, 0] S256x1024.size inb_S2048x1024_S256x1024_1792_0).toLoadRect (View.loadsAt_vmem h_S256x1024))
  let v2375 : Vec F S1024x1024 .bf16 ← Prog.lift (.load M4 (Rect.unit (s := S1024x1024) ![0, 0] S1024x1024.size inb_S1024x1024_S1024x1024_0_0).toLoadRect (View.loadsAt_vmem h_S1024x1024))
  let v2378 : Vec F S1x256x1024 .f32 ← Prog.lift (.load M5 (Rect.unit (s := S1x2048x1024) ![0, 1792, 0] S1x256x1024.size inb_S1x2048x1024_S1x256x1024_0_1792_0).toLoadRect (View.loadsAt_vmem h_S1x256x1024))
  Prog.lift (.store M5 (Rect.unit (s := S1x2048x1024) ![0, 1792, 0] S1x256x1024.size inb_S1x2048x1024_S1x256x1024_0_1792_0) (k0_pay202 v2374 v2375) Finset.univ (View.stores_vmem_bits_univ h_S1x256x1024 rfl) (.inl rfl))
  pure ⟨⟩

/-- From the first load of the rings on. -/
noncomputable def tailProg
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (M6 : Memref sig .tc .vmem S2048x1024 .bf16) (h6 : M6.IsWhole) (M7 : Memref sig .tc .vmem S2048x1024 .bf16) (h7 : M7.IsWhole)
    (M8 : Memref sig .tc .vmem S3x256x1024 .bf16) (h8 : M8.IsWhole) (M9 : Memref sig .tc .vmem S3x256x1024 .bf16) (h9 : M9.IsWhole)
    (M10 : Memref sig .tc .vmem S1x256x1024 .bf16) (h10 : M10.IsWhole) (M11 : Memref sig .tc .vmem S3x256x1024 .bf16) (h11 : M11.IsWhole)
    (M12 : Memref sig .tc .vmem S3x256x1024 .bf16) (h12 : M12.IsWhole) (M13 : Memref sig .tc .vmem S3x256x1024 .bf16) (h13 : M13.IsWhole)
    (M14 : Memref sig .tc .vmem S1x256x1024 .bf16) (h14 : M14.IsWhole) (M15 : Memref sig .tc .vmem S3x256x1024 .bf16) (h15 : M15.IsWhole)
    (A16 A17 A18 A19 : DmaSems sig S6) (A20 : Sems sig S_)
    (d0 : Dev nD) (v2 v5 v7 : BitVec 32) : Prog (TpuEff nD τ sig (Elt F) Λ₀ .tc) PUnit := do
  let v2386 : Vec F S1x256x1024 .f32 ← Prog.lift (.load M5 (Rect.unit (s := S1x2048x1024) (k0_off1 d0 0#32) S1x256x1024.size (k0_off1_inb d0 0)).toLoadRect (View.loadsAt_vmem h_S1x256x1024))
  let v2389 : Vec F S1x256x1024 .bf16 ← Prog.lift (.load M8 (Rect.unit (s := S3x256x1024) ![0, 0, 0] S1x256x1024.size inb_S3x256x1024_S1x256x1024_0_0_0).toLoadRect (View.loadsAt_vmem h_S1x256x1024))
  Prog.lift (.store M8 (Rect.unit (s := S3x256x1024) ![0, 0, 0] S1x256x1024.size inb_S3x256x1024_S1x256x1024_0_0_0) (k0_pay203 v2386) Finset.univ (View.stores_vmem h_S1x256x1024 (h8.storeExact_slice rfl _ packedbf16_S3x256x1024_S1x256x1024_0_0_0) (fun _ => rfl)) (.inl rfl))
  let v2392 : BitVec 32 := Scalar.addi v2 0#32
  let c8_i32_1327 : BitVec 32 := 8#32
  k0_part65 M0 h0 M1 h1 M2 h2 M3 h3 M4 h4 M5 h5 M6 h6 M7 h7 M8 h8 M9 h9 M10 h10 M11 h11 M12 h12 M13 h13 M14 h14 M15 h15 A16 A17 A18 A19 A20 d0 v5 v7 v2392 c8_i32_1327
  let ⟨v2444, c0_i32_1389⟩ : Σ' (v2444 : BitVec 32), BitVec 32 ← k0_part66 M0 h0 M1 h1 M2 h2 M3 h3 M4 h4 M5 h5 M6 h6 M7 h7 M8 h8 M9 h9 M10 h10 M11 h11 M12 h12 M13 h13 M14 h14 M15 h15 A16 A17 A18 A19 A20 d0 v5 v7
  let ⟨v2474, v2475⟩ : Σ' (v2474 : FVec F S256x1024 .f32), FVec F S256x1024 .bf16 ← k0_part67 M0 h0 M1 h1 M2 h2 M3 h3 M4 h4 M5 h5 M6 h6 M7 h7 M8 h8 M9 h9 M10 h10 M11 h11 M12 h12 M13 h13 M14 h14 M15 h15 A16 A17 A18 A19 A20 d0 v2 v2444 c0_i32_1389
  k0_part68 M0 h0 M1 h1 M2 h2 M3 h3 M4 h4 M5 h5 M6 h6 M7 h7 M8 h8 M9 h9 M10 h10 M11 h11 M12 h12 M13 h13 M14 h14 M15 h15 A16 A17 A18 A19 A20 d0 v5 v7 v2474 v2475
  k0_part69 M0 h0 M1 h1 M2 h2 M3 h3 M4 h4 M5 h5 M6 h6 M7 h7 M8 h8 M9 h9 M10 h10 M11 h11 M12 h12 M13 h13 M14 h14 M15 h15 A16 A17 A18 A19 A20 v5 v7
  k0_part70 M0 h0 M1 h1 M2 h2 M3 h3 M4 h4 M5 h5 M6 h6 M7 h7 M8 h8 M9 h9 M10 h10 M11 h11 M12 h12 M13 h13 M14 h14 M15 h15 A16 A17 A18 A19 A20 d0 v2
  k0_part71 M0 h0 M1 h1 M2 h2 M3 h3 M4 h4 M5 h5 M6 h6 M7 h7 M8 h8 M9 h9 M10 h10 M11 h11 M12 h12 M13 h13 M14 h14 M15 h15 A16 A17 A18 A19 A20 d0 v5 v7
  let ⟨v2612, v2613⟩ : Σ' (v2612 : BitVec 32), BitVec 32 ← k0_part72 M0 h0 M1 h1 M2 h2 M3 h3 M4 h4 M5 h5 M6 h6 M7 h7 M8 h8 M9 h9 M10 h10 M11 h11 M12 h12 M13 h13 M14 h14 M15 h15 A16 A17 A18 A19 A20 v2 v5 v7
  let ⟨v2632, v2644⟩ : Σ' (v2632 : FVec F S256x1024 .f32), FVec F S256x1024 .bf16 ← k0_part73 M0 h0 M1 h1 M2 h2 M3 h3 M4 h4 M5 h5 M6 h6 M7 h7 M8 h8 M9 h9 M10 h10 M11 h11 M12 h12 M13 h13 M14 h14 M15 h15 A16 A17 A18 A19 A20 d0 v2612 v2613
  k0_part74 M0 h0 M1 h1 M2 h2 M3 h3 M4 h4 M5 h5 M6 h6 M7 h7 M8 h8 M9 h9 M10 h10 M11 h11 M12 h12 M13 h13 M14 h14 M15 h15 A16 A17 A18 A19 A20 d0 v5 v7 v2632 v2644
  k0_part75 M0 h0 M1 h1 M2 h2 M3 h3 M4 h4 M5 h5 M6 h6 M7 h7 M8 h8 M9 h9 M10 h10 M11 h11 M12 h12 M13 h13 M14 h14 M15 h15 A16 A17 A18 A19 A20 v5 v7
  k0_part76 M0 h0 M1 h1 M2 h2 M3 h3 M4 h4 M5 h5 M6 h6 M7 h7 M8 h8 M9 h9 M10 h10 M11 h11 M12 h12 M13 h13 M14 h14 M15 h15 A16 A17 A18 A19 A20 d0 v2 v7
  k0_part77 M0 h0 M1 h1 M2 h2 M3 h3 M4 h4 M5 h5 M6 h6 M7 h7 M8 h8 M9 h9 M10 h10 M11 h11 M12 h12 M13 h13 M14 h14 M15 h15 A16 A17 A18 A19 A20 d0 v5 v7
  k0_part78 M0 h0 M1 h1 M2 h2 M3 h3 M4 h4 M5 h5 M6 h6 M7 h7 M8 h8 M9 h9 M10 h10 M11 h11 M12 h12 M13 h13 M14 h14 M15 h15 A16 A17 A18 A19 A20 d0 v2 v5
  k0_part79 M0 h0 M1 h1 M2 h2 M3 h3 M4 h4 M5 h5 M6 h6 M7 h7 M8 h8 M9 h9 M10 h10 M11 h11 M12 h12 M13 h13 M14 h14 M15 h15 A16 A17 A18 A19 A20 d0 v2 v5 v7
  let c1_i32_1793 : BitVec 32 ← k0_part80 M0 h0 M1 h1 M2 h2 M3 h3 M4 h4 M5 h5 M6 h6 M7 h7 M8 h8 M9 h9 M10 h10 M11 h11 M12 h12 M13 h13 M14 h14 M15 h15 A16 A17 A18 A19 A20 d0 v7
  let c1_i32_1819_r0 : BitVec 32 ← k0_part81 M0 h0 M1 h1 M2 h2 M3 h3 M4 h4 M5 h5 M6 h6 M7 h7 M8 h8 M9 h9 M10 h10 M11 h11 M12 h12 M13 h13 M14 h14 M15 h15 A16 A17 A18 A19 A20 d0 v2 v5 c1_i32_1793
  semSignalWord (⟨k0_dev15 d0, k0_dev15_lt d0⟩ : Dev nD) A20.sem 1#32
  semSignalWord (⟨k0_dev16 d0, k0_dev16_lt d0⟩ : Dev nD) A20.sem 1#32
  semWaitWord A20.sem 2#32
  pure ⟨⟩

set_option maxRecDepth 65536 in
theorem body_split
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (M6 : Memref sig .tc .vmem S2048x1024 .bf16) (h6 : M6.IsWhole) (M7 : Memref sig .tc .vmem S2048x1024 .bf16) (h7 : M7.IsWhole)
    (M8 : Memref sig .tc .vmem S3x256x1024 .bf16) (h8 : M8.IsWhole) (M9 : Memref sig .tc .vmem S3x256x1024 .bf16) (h9 : M9.IsWhole)
    (M10 : Memref sig .tc .vmem S1x256x1024 .bf16) (h10 : M10.IsWhole) (M11 : Memref sig .tc .vmem S3x256x1024 .bf16) (h11 : M11.IsWhole)
    (M12 : Memref sig .tc .vmem S3x256x1024 .bf16) (h12 : M12.IsWhole) (M13 : Memref sig .tc .vmem S3x256x1024 .bf16) (h13 : M13.IsWhole)
    (M14 : Memref sig .tc .vmem S1x256x1024 .bf16) (h14 : M14.IsWhole) (M15 : Memref sig .tc .vmem S3x256x1024 .bf16) (h15 : M15.IsWhole)
    (A16 A17 A18 A19 : DmaSems sig S6) (A20 : Sems sig S_)
    :
    cc0_body (F := F) M0 h0 M1 h1 M2 h2 M3 h3 M4 h4 M5 h5 M6 h6 M7 h7 M8 h8 M9 h9 M10 h10 M11 h11 M12 h12 M13 h13 M14 h14 M15 h15 A16 A17 A18 A19 A20 = (do
  let ⟨d0, v2, v5, v7, v2259, v2262, v2265⟩ ← k0_part82 M0 h0 M1 h1 M2 h2 M3 h3 M4 h4 M5 h5 M6 h6 M7 h7 M8 h8 M9 h9 M10 h10 M11 h11 M12 h12 M13 h13 M14 h14 M15 h15 A16 A17 A18 A19 A20
  let ⟨v2294, v2297, v2304⟩ ← k0_part61 M0 h0 M1 h1 M2 h2 M3 h3 M4 h4 M5 h5 M6 h6 M7 h7 M8 h8 M9 h9 M10 h10 M11 h11 M12 h12 M13 h13 M14 h14 M15 h15 A16 A17 A18 A19 A20 v2259 v2262 v2265
  k0_part62 M0 h0 M1 h1 M2 h2 M3 h3 M4 h4 M5 h5 M6 h6 M7 h7 M8 h8 M9 h9 M10 h10 M11 h11 M12 h12 M13 h13 M14 h14 M15 h15 A16 A17 A18 A19 A20 v2294 v2297 v2304
  let v2363 ← k0_part63 M0 h0 M1 h1 M2 h2 M3 h3 M4 h4 M5 h5 M6 h6 M7 h7 M8 h8 M9 h9 M10 h10 M11 h11 M12 h12 M13 h13 M14 h14 M15 h15 A16 A17 A18 A19 A20
  headProg M0 h0 M1 h1 M2 h2 M3 h3 M4 h4 M5 h5 M6 h6 M7 h7 M8 h8 M9 h9 M10 h10 M11 h11 M12 h12 M13 h13 M14 h14 M15 h15 A16 A17 A18 A19 A20 v2363
  tailProg M0 h0 M1 h1 M2 h2 M3 h3 M4 h4 M5 h5 M6 h6 M7 h7 M8 h8 M9 h9 M10 h10 M11 h11 M12 h12 M13 h13 M14 h14 M15 h15 A16 A17 A18 A19 A20 d0 v2 v5 v7) := by rw [cc0_body_eq_skeleton]; rfl

def prefixRun (c : Dev nD)
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (M6 : Memref sig .tc .vmem S2048x1024 .bf16) (h6 : M6.IsWhole) (M7 : Memref sig .tc .vmem S2048x1024 .bf16) (h7 : M7.IsWhole)
    (M8 : Memref sig .tc .vmem S3x256x1024 .bf16) (h8 : M8.IsWhole) (M9 : Memref sig .tc .vmem S3x256x1024 .bf16) (h9 : M9.IsWhole)
    (M10 : Memref sig .tc .vmem S1x256x1024 .bf16) (h10 : M10.IsWhole) (M11 : Memref sig .tc .vmem S3x256x1024 .bf16) (h11 : M11.IsWhole)
    (M12 : Memref sig .tc .vmem S3x256x1024 .bf16) (h12 : M12.IsWhole) (M13 : Memref sig .tc .vmem S3x256x1024 .bf16) (h13 : M13.IsWhole)
    (M14 : Memref sig .tc .vmem S1x256x1024 .bf16) (h14 : M14.IsWhole) (M15 : Memref sig .tc .vmem S3x256x1024 .bf16) (h15 : M15.IsWhole)
    (A16 A17 A18 A19 : DmaSems sig S6) (A20 : Sems sig S_)
    (f0 : Bf F c M0) (f1 : Bf F c M1) (f2 : Bf F c M2) (f3 : Bf F c M3) (f4 : Bf F c M4) :
    { W : List (View.Piece (Elt F) S2048x1024 .bf16) × List (View.Piece (Elt F) S2048x1024 .bf16) × List (View.Piece (Elt F) S1x2048x1024 .f32) //
      ∀ (B B1 B2 R : sProp 𝕄) (𝒱₀ : Variants)
        (hb1 : ∀ Q : PUnit → sProp 𝕄, iprop(B ∗ (B1 -∗ Q ⟨⟩)) ⊢ wp frame (wpE (defs₀ (F := F)) 𝒱₀ c none) Set.univ
          (semSignalWord (⟨k0_dev1 c, k0_dev1_lt c⟩ : Dev nD) (SemArray.scalar (sig.barrier 0 rfl) : Sems sig S_).sem 1#32) Q)
        (hb2 : ∀ Q : PUnit → sProp 𝕄, iprop(B1 ∗ (B2 -∗ Q ⟨⟩)) ⊢ wp frame (wpE (defs₀ (F := F)) 𝒱₀ c none) Set.univ
          (semSignalWord (⟨k0_dev2 c, k0_dev2_lt c⟩ : Dev nD) (SemArray.scalar (sig.barrier 0 rfl) : Sems sig S_).sem 1#32) Q)
        (hb3 : ∀ Q : PUnit → sProp 𝕄, iprop(B2 ∗ (R -∗ Q ⟨⟩)) ⊢ wp frame (wpE (defs₀ (F := F)) 𝒱₀ c none) Set.univ
          (semWaitWord (SemArray.scalar (sig.barrier 0 rfl) : Sems sig S_).sem 2#32) Q)
        (f5 : Bf F c M5) (f6 : Bf F c M6) (f7 : Bf F c M7) (Q : PUnit → sProp 𝕄),
        iprop(B ∗ pt c M0 f0 ∗ pt c M1 f1 ∗ pt c M2 f2 ∗ pt c M3 f3 ∗ pt c M4 f4 ∗ pt c M5 f5 ∗ pt c M6 f6 ∗ pt c M7 f7
          ∗ (iprop(R ∗ pt c M0 f0 ∗ pt c M1 f1 ∗ pt c M2 f2 ∗ pt c M3 f3 ∗ pt c M4 f4
                ∗ pt c M6 (M6.view.writes (Elt F) f6 W.1) ∗ pt c M7 (M7.view.writes (Elt F) f7 W.2.1) ∗ pt c M5 (M5.view.writes (Elt F) f5 W.2.2)) -∗
               iprop(∀ v : Fin 3 → BitVec 32, wp frame (wpE (defs₀ (F := F)) 𝒱₀ c none) Set.univ
                 (tailProg M0 h0 M1 h1 M2 h2 M3 h3 M4 h4 M5 h5 M6 h6 M7 h7 M8 h8 M9 h9 M10 h10 M11 h11 M12 h12 M13 h13 M14 h14 M15 h15 A16 A17 A18 A19 A20 c (v 0) (v 1) (v 2)) Q)))
        ⊢ wp frame (wpE (defs₀ (F := F)) 𝒱₀ c none) Set.univ
            (cc0_body M0 h0 M1 h1 M2 h2 M3 h3 M4 h4 M5 h5 M6 h6 M7 h7 M8 h8 M9 h9 M10 h10 M11 h11 M12 h12 M13 h13 M14 h14 M15 h15 A16 A17 A18 A19 A20) Q } := by
  refine ⟨⟨?_, ?_, ?_⟩, fun B B1 B2 R 𝒱₀ hb1 hb2 hb3 f5 f6 f7 Q => ?run⟩
  case run =>
    iintro ⟨HB, H0, H1, H2, H3, H4, H5, H6, H7, Hk⟩
    rw [body_split]
    rw [wp_bind, k0_part82_eq_skeleton]; unfold k0_part82_skel
    rw [wp_bind, k0_part1_eq_skeleton]; unfold k0_part1_skel
    rw [Prog.bind_lift]; sl_step
    rw [wp_bind]
    iapply (hb1 _)
    isplitl [HB]; · iexact HB
    iintro HB
    rw [wp_bind]
    iapply (hb2 _)
    isplitl [HB]; · iexact HB
    iintro HB
    rw [wp_bind]
    iapply (hb3 _)
    isplitl [HB]; · iexact HB
    iintro HR
    set_option sl_exec.stopBefore "tailProg" in
    sl_exec_parts
    iapply Hk $$ [HR H0 H1 H2 H3 H4 H5 H6 H7] %![_, _, _]
    isplitl [HR]; · iexact HR
    isplitl [H0]; · iexact H0
    isplitl [H1]; · iexact H1
    isplitl [H2]; · iexact H2
    isplitl [H3]; · iexact H3
    isplitl [H4]; · iexact H4
    isplitl [H6]; · iexact H6
    isplitl [H7]; · iexact H7
    iexact H5

end Cert.KernelIdeal.Hand

end
-- ==== Proof.Exchange.lean ====
module

public import proofs.«01_k».proof.Proof.Ring

@[expose] public section

/-! # One exchange of the two rings

Both copies are enqueued, then the own send and receive semaphores of either direction are waited on. The theorem
`exch_run` runs an exchange once for all six. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## Every slot is one a transfer and a store write exactly -/

theorem slot3_exact (M : Memref sig .tc .vmem S3x256x1024 .bf16) (h : M.IsWhole) : ∀ k : Fin 3, (slot3 M k).view.WordExact
  | 0 => (h.wordExact_slice rfl _ wordsbf16_S3x256x1024_S1x256x1024_0_0_0).reshape _ _
  | 1 => (h.wordExact_slice rfl _ wordsbf16_S3x256x1024_S1x256x1024_1_0_0).reshape _ _
  | 2 => (h.wordExact_slice rfl _ wordsbf16_S3x256x1024_S1x256x1024_2_0_0).reshape _ _
theorem slot1_exact (M : Memref sig .tc .vmem S1x256x1024 .bf16) (h : M.IsWhole) : (slot1 M).view.WordExact :=
  (h.wordExact_slice rfl _ wordsbf16_S1x256x1024_S1x256x1024_0_0_0).reshape _ _
theorem slot3_stores (M : Memref sig .tc .vmem S3x256x1024 .bf16) (h : M.IsWhole) : ∀ k : Fin 3, (M.access (slotRect k)).Stores Finset.univ
  | 0 => View.stores_vmem h_S1x256x1024 (h.storeExact_slice rfl _ packedbf16_S3x256x1024_S1x256x1024_0_0_0) (fun _ => rfl)
  | 1 => View.stores_vmem h_S1x256x1024 (h.storeExact_slice rfl _ packedbf16_S3x256x1024_S1x256x1024_1_0_0) (fun _ => rfl)
  | 2 => View.stores_vmem h_S1x256x1024 (h.storeExact_slice rfl _ packedbf16_S3x256x1024_S1x256x1024_2_0_0) (fun _ => rfl)
theorem slot1_stores (M : Memref sig .tc .vmem S1x256x1024 .bf16) (h : M.IsWhole) : (M.access oneRect).Stores Finset.univ :=
  View.stores_vmem h_S1x256x1024 (h.storeExact_slice rfl _ packedbf16_S1x256x1024_S1x256x1024_0_0_0) (fun _ => rfl)

theorem rsS_whole : ∀ d, (rsS d).IsWhole
  | false => Memref.isWhole_whole _
  | true => Memref.isWhole_whole _
theorem rsR_whole : ∀ d, (rsR d).IsWhole
  | false => Memref.isWhole_whole _
  | true => Memref.isWhole_whole _
theorem agS_whole : ∀ d, (agS d).IsWhole
  | false => Memref.isWhole_whole _
  | true => Memref.isWhole_whole _
theorem agR_whole : ∀ d, (agR d).IsWhole
  | false => Memref.isWhole_whole _
  | true => Memref.isWhole_whole _

theorem src_exact (d : Bool) : ∀ k, (srcM d k).view.WordExact
  | 0 => slot3_exact _ (rsS_whole d) 0
  | 1 => slot3_exact _ (rsS_whole d) 1
  | 2 => slot3_exact _ (rsS_whole d) 2
  | 3 => slot1_exact _ (agS_whole d)
  | 4 => slot3_exact _ (agR_whole d) 0
  | 5 => slot3_exact _ (agR_whole d) 1
theorem dst_exact (d : Bool) : ∀ k, (dstM d k).view.WordExact
  | 0 => slot3_exact _ (rsR_whole d) 0
  | 1 => slot3_exact _ (rsR_whole d) 1
  | 2 => slot3_exact _ (rsR_whole d) 2
  | 3 => slot3_exact _ (agR_whole d) 0
  | 4 => slot3_exact _ (agR_whole d) 1
  | 5 => slot3_exact _ (agR_whole d) 2

/-! ## The program of an exchange -/

/-- Exchange `k`, sending to `dev false` on the right and to `dev true` on the left. -/
def exch (dev : Bool → Dev nD) (k : Fin 6) : Prog (TpuEff nD τ sig (Elt F) Λ₀ .tc) PUnit := do
  Prog.lift (.enqueueDma (srcM false k) (.remote (Dev.tc (dev false)) (dstM false k) (.dma (sendS false k))) (.dma (recvS false k)) (src_exact false k) (dst_exact false k) ⟨⟨rfl, Or.inl rfl⟩, trivial⟩)
  Prog.lift (.enqueueDma (srcM true k) (.remote (Dev.tc (dev true)) (dstM true k) (.dma (sendS true k))) (.dma (recvS true k)) (src_exact true k) (dst_exact true k) ⟨⟨rfl, Or.inl rfl⟩, trivial⟩)
  Prog.lift (.waitDma2 (sendS false k) (dstM false k) (srcM false k) (dst_exact false k) (src_exact false k))
  Prog.lift (.waitDma2 (recvS false k) (srcM false k) (dstM false k) (src_exact false k) (dst_exact false k))
  Prog.lift (.waitDma2 (sendS true k) (dstM true k) (srcM true k) (dst_exact true k) (src_exact true k))
  Prog.lift (.waitDma2 (recvS true k) (srcM true k) (dstM true k) (src_exact true k) (dst_exact true k))
  pure ⟨⟩

variable (P : Blocks F)

/-- The invariants of all cells, at the names the launch allocated them at. Persistent. -/
def recs (κ : GSem nD τ sig → ℕ) : sProp 𝕄 :=
  iprop((bigSep Finset.univ fun c : Dev nD => (cellInv ER (ringRd P) (κ (barCell c)) (barCell c) : sProp 𝕄))
    ∗ bigSep Finset.univ fun p : Dev nD × Fin 25 => (cellInv ER (ringRd P) (κ (cell p.2 p.1)) (cell p.2 p.1) : sProp 𝕄))
instance recs_persistent (κ : GSem nD τ sig → ℕ) : BI.Persistent (recs P κ) := by unfold recs; infer_instance

theorem recs_bar (κ : GSem nD τ sig → ℕ) (c : Dev nD) : (recs P κ : sProp 𝕄) ⊢ cellInv ER (ringRd P) (κ (barCell c)) (barCell c) := by
  have h : (bigSep Finset.univ fun c : Dev nD => (cellInv ER (ringRd P) (κ (barCell c)) (barCell c) : sProp 𝕄))
      ⊢ cellInv ER (ringRd P) (κ (barCell c)) (barCell c) := bigSep_elim (Finset.mem_univ c)
  unfold recs
  iintro ⟨H, -⟩
  iapply h; iexact H
theorem recs_cell (κ : GSem nD τ sig → ℕ) (i : Fin 25) (c : Dev nD) : (recs P κ : sProp 𝕄) ⊢ cellInv ER (ringRd P) (κ (cell i c)) (cell i c) := by
  have h : (bigSep Finset.univ fun p : Dev nD × Fin 25 => (cellInv ER (ringRd P) (κ (cell p.2 p.1)) (cell p.2 p.1) : sProp 𝕄))
      ⊢ cellInv ER (ringRd P) (κ (cell i c)) (cell i c) := bigSep_elim (Finset.mem_univ (c, i))
  unfold recs
  iintro ⟨-, H⟩
  iapply h; iexact H
theorem recs_send (κ : GSem nD τ sig → ℕ) (d : Bool) (k : Fin 6) (c : Dev nD) :
    (recs P κ : sProp 𝕄) ⊢ cellInv ER (ringRd P) (κ (sendCell d k c)) (sendCell d k c) := by
  rw [← cell_send]; exact recs_cell P κ _ c
theorem recs_recv (κ : GSem nD τ sig → ℕ) (d : Bool) (k : Fin 6) (c : Dev nD) :
    (recs P κ : sProp 𝕄) ⊢ cellInv ER (ringRd P) (κ (recvCell d k c)) (recvCell d k c) := by
  rw [← cell_recv]; exact recs_cell P κ _ c
theorem recs_end (κ : GSem nD τ sig → ℕ) (c : Dev nD) :
    (recs P κ : sProp 𝕄) ⊢ cellInv ER (ringRd P) (κ (endCell c)) (endCell c) := by
  rw [← cell_end]; exact recs_cell P κ _ c

theorem close (κ : ℕ) (g : GSem nD τ sig) :
    iprop(cellInv ER (ringRd P) κ g ∗ atPos ER g (0 + 1) ∅ 0) ⊢ (|={Set.univ}=> semVal g 0 : sProp 𝕄) :=
  Rounds.cell_close ER (ringRd P) (Set.mem_univ κ) id (duties_later P g)

/-- What a device brings to exchange `k` of direction `d` beside the slot it sends. -/
def brings (d : Bool) (k : Fin 6) (c : Dev nD) : sProp 𝕄 :=
  iprop(atPos ER (sendCell d k c) 0 ∅ 0 ∗ atPos ER (recvCell d k c) 0 ∅ 0
    ∗ dutyTok ER (sendCell d k c) 0 false ∗ dutyTok ER (recvCell d k (nb d c)) 0 false
    ∗ cred (tallyAt (recvCell d k c) () N)
    ∗ reached ER (sendCell d k c) 0 ∗ reached ER (recvCell d k (nb d c)) 0 ∗ room (nb d c) (dstM d k))

theorem due_succ (c : Dev nD) (k : Fin 6) : due c (6 - k.val)
    = due c (5 - k.val) + tallyAt (recvCell true k (nb true c)) () N + tallyAt (recvCell false k (nb false c)) () N := by
  fin_cases k <;> rfl

/-- One copy: the own slot lent to the transfer, the credit of the neighbour's receive cell paid. -/
theorem send_step (κ : GSem nD τ sig → ℕ) (c : Dev nD) (d : Bool) (k : Fin 6) (O : CellTallies nD τ sig Unit) (W : Waits sig Unit)
    (Q : PUnit → sProp 𝕄) (kk : PUnit → Prog (TpuEff nD τ sig (Elt F) Λ₀ .tc) PUnit) :
    iprop(recs P κ ∗ holds c (srcM d k) (sent P d k c) ∗ room (nb d c) (dstM d k)
      ∗ owes (c : Thread nD τ) (O + tallyAt (recvCell d k (nb d c)) () N) W
      ∗ dutyTok ER (sendCell d k c) 0 false ∗ reached ER (sendCell d k c) 0
      ∗ dutyTok ER (recvCell d k (nb d c)) 0 false ∗ reached ER (recvCell d k (nb d c)) 0)
      ⊢ iprop(((cred (tallyAt (sendCell d k c) () N) ∗ owes (c : Thread nD τ) O W) -∗ wp frame (wpE (defs₀ (F := F)) 𝒱₀ c none) Set.univ (kk ⟨⟩) Q)
        -∗ wp frame (wpE (defs₀ (F := F)) 𝒱₀ c none) Set.univ
          (.op (.enqueueDma (srcM d k) (.remote (Dev.tc (nb d c)) (dstM d k) (.dma (sendS d k))) (.dma (recvS d k)) (src_exact d k) (dst_exact d k) ⟨⟨rfl, Or.inl rfl⟩, trivial⟩) kk) Q) := by
  unfold holds room
  iintro ⟨#HR, ⟨%fs, %hfs, Hs⟩, ⟨%fd, Hd⟩, HO, HtS, HrS, HtV, HrV⟩
  iintro Hk
  iapply (Rounds.wp_send_pointsTo 𝒱₀ ER (ringRd P) (c : Thread nD τ) none (c' := (nb d c : Thread nD τ)) (src := srcM d k) (dst := dstM d k)
      (sS := .dma (sendS d k)) (sem := .dma (recvS d k)) (q := fullShare) (fs := fs) (κ₁ := κ (sendCell d k c)) (κ₂ := κ (recvCell d k (nb d c)))
      (r₁ := 0) (r₂ := 0) (d₁ := false) (d₂ := false) (fd := fd)
      (by rw [duties_send]; exact Finset.mem_singleton_self _) (by rw [duties_recv]; exact Finset.mem_singleton_self _)
      () () N (dst_amount d k) (amount_send P d k c false) (amount_recv P d k (nb d c) false) O rfl (W := W)
      (by rw [payload_send]; unfold sendPay holds; iintro H; iexists fs; isplitr; · ipureintro; exact hfs
          iexact H)
      (by rw [payload_recv]; unfold recvPay holds; rw [nb_nb']; iintro H; iexists ((dstM d k).view.write (Elt F) fd ((srcM d k).view.read (Elt F) fs) Finset.univ); isplitr
          · ipureintro; exact (View.read_write_univ _ _).trans hfs
          iexact H)) $$ [Hs Hd HO HtS HrS HtV HrV]
  · isplitr; · iapply (recs_send P κ d k c); iexact HR
    isplitr; · iapply (recs_recv P κ d k (nb d c)); iexact HR
    isplitl [Hs]; · iexact Hs
    isplitl [Hd]; · iexact Hd
    isplitl [HO]; · iexact HO
    isplitl [HtS]; · iexact HtS
    isplitl [HrS]; · iexact HrS
    isplitl [HtV]; · iexact HtV
    iexact HrV
  iexact Hk

/-- A wait on the own send semaphore: the source comes back. -/
theorem wait_send (κ : GSem nD τ sig → ℕ) (c : Dev nD) (d : Bool) (k : Fin 6) (j : ℕ) (hj : j ≤ 6) (W : Waits sig Unit)
    (Q : PUnit → sProp 𝕄) (kk : PUnit → Prog (TpuEff nD τ sig (Elt F) Λ₀ .tc) PUnit) :
    iprop(recs P κ ∗ levAts L lv ∗ cred (tallyAt (sendCell d k c) () N) ∗ owes (c : Thread nD τ) (due c j) W ∗ atPos ER (sendCell d k c) 0 ∅ 0)
      ⊢ iprop(((∃ W, owes (c : Thread nD τ) (due c j) W) -∗ atPos ER (sendCell d k c) (0 + 1) ∅ 0 -∗ holds c (srcM d k) (sent P d k c)
            -∗ wp frame (wpE (defs₀ (F := F)) 𝒱₀ c none) Set.univ (kk ⟨⟩) Q)
        -∗ wp frame (wpE (defs₀ (F := F)) 𝒱₀ c none) Set.univ
          (.op (.waitDma2 (sendS d k) (dstM d k) (srcM d k) (dst_exact d k) (src_exact d k)) kk) Q) := by
  iintro ⟨#HR, #Hlev, Hc, HO, Hat⟩ Hk
  iapply (Rounds.wp_wait_rest_token 𝒱₀ ER (ringRd P) (c : Thread nD τ) none (κ := κ (sendCell d k c))
      (wpE_waitDma2_eq 𝒱₀ (c : Thread nD τ) none Set.univ) (Set.mem_univ _) () (O := due c j) (W := W) (R := 0) (m := 0) (T := ∅)
      ((Nat.zero_add _).trans ((src_amount d k).trans (expect_send P d k c).symm))) $$ [Hc HO Hat]
  · isplitr; · iapply (recs_send P κ d k c); iexact HR
    isplitl [Hc]; · rw [src_amount]; iexact Hc
    isplitl [HO]; · iexact HO
    isplitr; · iapply (mayWait_due c (.dma (sendS d k)) j hj (by rw [lv_send]; omega)); iexact Hlev
    iexact Hat
  iintro ⟨HO, Hat, -, Hpay⟩
  ihave Hp := (Entails.of_eq (rest_send P d k c)) $$ Hpay
  unfold sendPay
  iapply Hk $$ [HO] [Hat] [Hp]
  · iexists _; iexact HO
  · iexact Hat
  iexact Hp

/-- A wait on the own receive semaphore: the slot comes back at what the neighbour sent. -/
theorem wait_recv (κ : GSem nD τ sig → ℕ) (c : Dev nD) (d : Bool) (k : Fin 6) (W : Waits sig Unit)
    (Q : PUnit → sProp 𝕄) (kk : PUnit → Prog (TpuEff nD τ sig (Elt F) Λ₀ .tc) PUnit) :
    iprop(recs P κ ∗ levAts L lv ∗ cred (tallyAt (recvCell d k c) () N) ∗ owes (c : Thread nD τ) (due c (5 - k.val)) W ∗ atPos ER (recvCell d k c) 0 ∅ 0)
      ⊢ iprop(((∃ W, owes (c : Thread nD τ) (due c (5 - k.val)) W) -∗ atPos ER (recvCell d k c) (0 + 1) ∅ 0 -∗ holds c (dstM d k) (sent P d k (nb (!d) c))
            -∗ wp frame (wpE (defs₀ (F := F)) 𝒱₀ c none) Set.univ (kk ⟨⟩) Q)
        -∗ wp frame (wpE (defs₀ (F := F)) 𝒱₀ c none) Set.univ
          (.op (.waitDma2 (recvS d k) (srcM d k) (dstM d k) (src_exact d k) (dst_exact d k)) kk) Q) := by
  iintro ⟨#HR, #Hlev, Hc, HO, Hat⟩ Hk
  iapply (Rounds.wp_wait_rest_token 𝒱₀ ER (ringRd P) (c : Thread nD τ) none (κ := κ (recvCell d k c))
      (wpE_waitDma2_eq 𝒱₀ (c : Thread nD τ) none Set.univ) (Set.mem_univ _) () (O := due c (5 - k.val)) (W := W) (R := 0) (m := 0) (T := ∅)
      ((Nat.zero_add _).trans ((dst_amount d k).trans (expect_recv P d k c).symm))) $$ [Hc HO Hat]
  · isplitr; · iapply (recs_recv P κ d k c); iexact HR
    isplitl [Hc]; · rw [dst_amount]; iexact Hc
    isplitl [HO]; · iexact HO
    isplitr; · iapply (mayWait_due c (.dma (recvS d k)) (5 - k.val) (by omega) (by rw [lv_recv]; omega)); iexact Hlev
    iexact Hat
  iintro ⟨HO, Hat, -, Hpay⟩
  ihave Hp := (Entails.of_eq (rest_recv P d k c)) $$ Hpay
  unfold recvPay
  iapply Hk $$ [HO] [Hat] [Hp]
  · iexists _; iexact HO
  · iexact Hat
  iexact Hp

/-- What an exchange leaves: the counters of its four cells at zero, the sources back, and the slots landed in. -/
def leaves (k : Fin 6) (c : Dev nD) : sProp 𝕄 :=
  iprop((semVal (sendCell false k c) 0 ∗ semVal (recvCell false k c) 0 ∗ semVal (sendCell true k c) 0 ∗ semVal (recvCell true k c) 0)
    ∗ holds c (srcM false k) (sent P false k c) ∗ holds c (srcM true k) (sent P true k c)
    ∗ holds c (dstM false k) (sent P false k (nb true c)) ∗ holds c (dstM true k) (sent P true k (nb false c)))

theorem exch_run (κ : GSem nD τ sig → ℕ) (c : Dev nD) (k : Fin 6) (Q : PUnit → sProp 𝕄) :
    iprop(recs P κ ∗ levAts L lv ∗ brings false k c ∗ brings true k c
      ∗ holds c (srcM false k) (sent P false k c) ∗ holds c (srcM true k) (sent P true k c)
      ∗ (∃ W, owes (c : Thread nD τ) (due c (6 - k.val)) W)
      ∗ (leaves P k c -∗ (∃ W, owes (c : Thread nD τ) (due c (5 - k.val)) W) -∗ Q ⟨⟩))
      ⊢ wp frame (wpE (defs₀ (F := F)) 𝒱₀ c none) Set.univ (exch (fun d => nb d c) k) Q := by
  unfold exch brings
  iintro ⟨#HR, #Hlev, ⟨HaS, HaV, HtS, HtV, HcV, HrS, HrV, Hroom⟩, ⟨HaS', HaV', HtS', HtV', HcV', HrS', HrV', Hroom'⟩, Hs, Hs', ⟨%W, HO⟩, Hk⟩
  rw [due_succ]
  rw [Prog.bind_lift]
  iapply (send_step P κ c false k _ W) $$ [Hs Hroom HO HtS HrS HtV HrV]
  · isplitr; · iexact HR
    isplitl [Hs]; · iexact Hs
    isplitl [Hroom]; · iexact Hroom
    isplitl [HO]; · iexact HO
    isplitl [HtS]; · iexact HtS
    isplitl [HrS]; · iexact HrS
    isplitl [HtV]; · iexact HtV
    iexact HrV
  iintro ⟨HcS, HO⟩
  rw [Prog.bind_lift]
  iapply (send_step P κ c true k _ W) $$ [Hs' Hroom' HO HtS' HrS' HtV' HrV']
  · isplitr; · iexact HR
    isplitl [Hs']; · iexact Hs'
    isplitl [Hroom']; · iexact Hroom'
    isplitl [HO]; · iexact HO
    isplitl [HtS']; · iexact HtS'
    isplitl [HrS']; · iexact HrS'
    isplitl [HtV']; · iexact HtV'
    iexact HrV'
  iintro ⟨HcS', HO⟩
  rw [Prog.bind_lift]
  iapply (wait_send P κ c false k (5 - k.val) (by omega) W) $$ [HcS HO HaS]
  · isplitr; · iexact HR
    isplitr; · iexact Hlev
    isplitl [HcS]; · iexact HcS
    isplitl [HO]; · iexact HO
    iexact HaS
  iintro ⟨%W1, HO⟩ HaS Hs
  rw [Prog.bind_lift]
  iapply (wait_recv P κ c false k W1) $$ [HcV HO HaV]
  · isplitr; · iexact HR
    isplitr; · iexact Hlev
    isplitl [HcV]; · iexact HcV
    isplitl [HO]; · iexact HO
    iexact HaV
  iintro ⟨%W2, HO⟩ HaV Hd
  rw [Prog.bind_lift]
  iapply (wait_send P κ c true k (5 - k.val) (by omega) W2) $$ [HcS' HO HaS']
  · isplitr; · iexact HR
    isplitr; · iexact Hlev
    isplitl [HcS']; · iexact HcS'
    isplitl [HO]; · iexact HO
    iexact HaS'
  iintro ⟨%W3, HO⟩ HaS' Hs'
  rw [Prog.bind_lift]
  iapply (wait_recv P κ c true k W3) $$ [HcV' HO HaV']
  · isplitr; · iexact HR
    isplitr; · iexact Hlev
    isplitl [HcV']; · iexact HcV'
    isplitl [HO]; · iexact HO
    iexact HaV'
  iintro HO HaV' Hd'
  rw [show (pure PUnit.unit : Prog (TpuEff nD τ sig (Elt F) Λ₀ .tc) PUnit) = Prog.ret PUnit.unit from rfl, wp_ret]
  imod (close P (κ (sendCell false k c)) (sendCell false k c)) $$ [HaS] with H1
  · isplitr; · iapply (recs_send P κ false k c); iexact HR
    iexact HaS
  imod (close P (κ (recvCell false k c)) (recvCell false k c)) $$ [HaV] with H2
  · isplitr; · iapply (recs_recv P κ false k c); iexact HR
    iexact HaV
  imod (close P (κ (sendCell true k c)) (sendCell true k c)) $$ [HaS'] with H3
  · isplitr; · iapply (recs_send P κ true k c); iexact HR
    iexact HaS'
  imod (close P (κ (recvCell true k c)) (recvCell true k c)) $$ [HaV'] with H4
  · isplitr; · iapply (recs_recv P κ true k c); iexact HR
    iexact HaV'
  imodintro
  iapply Hk $$ [H1 H2 H3 H4 Hs Hs' Hd Hd'] [HO]
  · unfold leaves
    isplitl [H1 H2 H3 H4]
    · isplitl [H1]; · iexact H1
      isplitl [H2]; · iexact H2
      isplitl [H3] <;> iassumption
    isplitl [Hs]; · iexact Hs
    isplitl [Hs']; · iexact Hs'
    isplitl [Hd]; · iexact Hd
    iexact Hd'
  iexact HO

end Cert.KernelIdeal.Hand

end
-- ==== Proof.Tail.lean ====
module

public import proofs.«01_k».proof.Proof.Head
public import proofs.«01_k».proof.Proof.Exchange
public import Idealize.ShloMosaic.Lib.Writes
public import Idealize.ShloMosaic.Lib.Pipeline.Value

@[expose] public section

/-! # The second half of the body: both rings, run at a symbolic device

The program of the rings is written once over the row blocks of the output and the slots of the buffers, and run
once. `ring_run` says which value every row block of the output holds at the end. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The row blocks of the output -/

def rowOff (d : Bool) (q : Dev nD) : Fin 3 → ℕ := ![0, 512 * q.val + 256 * d.toNat, 0]
theorem rowOff_inb : ∀ (d : Bool) (q : Dev nD) (a : Fin 3), rowOff d q a + S1x256x1024.size a ≤ S1x2048x1024.size a := by decide +kernel
abbrev outRect (o : Fin 3 → ℕ) (h : ∀ a, o a + S1x256x1024.size a ≤ S1x2048x1024.size a) : Rect S1x2048x1024 :=
  Rect.unit (s := S1x2048x1024) o S1x256x1024.size h
abbrev rowRect (d : Bool) (q : Dev nD) : Rect S1x2048x1024 := outRect (rowOff d q) (rowOff_inb d q)

abbrev Rows (F : FTy → Type) : Type := Bool → Dev nD → FVec F S1x256x1024 .f32

/-- The output buffer of device `c` with its row blocks at `R`. -/
def rowsAre (c : Dev nD) (M : Memref sig .tc .vmem S1x2048x1024 .f32) (R : Rows F) : sProp 𝕄 :=
  iprop(∃ f : Bf F c M, ⌜∀ d q, M.view.readAt (Elt F) (rowRect d q).toLoadRect f = R d q⌝ ∗ pt c M f)

def setRow (d : Bool) (q : Dev nD) (w : FVec F S1x256x1024 .f32) (R : Rows F) : Rows F :=
  fun d' q' => if d' = d ∧ q' = q then w else R d' q'

/-- Another row block lies elsewhere. -/
theorem row_miss {d d' : Bool} {q q' : Dev nD} (h : ¬ (d' = d ∧ q' = q)) (x : (rowRect d' q').shape.Idx) :
    (rowRect d' q').emb x ∉ (rowRect d q).set := by
  refine Rect.not_mem_set_of_axis (rowRect d q) _ 1 (512 * q.val + 256 * d.toNat) 256 rfl rfl rfl ?_
  have hx : (x 1).val < 256 := (x 1).isLt
  have e : ((rowRect d' q').emb x 1).val = 512 * q'.val + 256 * d'.toNat + 1 * (x 1).val := rfl
  rw [e]
  have hq := q.isLt; have hq' := q'.isLt
  by_cases hqq : q'.val = q.val
  · have hd : d' ≠ d := fun e => h ⟨e, Fin.ext hqq⟩
    cases d <;> cases d' <;> simp at hd ⊢ <;> omega
  · have := d.toNat_le; have := d'.toNat_le; omega

theorem read_setRow (M : Memref sig .tc .vmem S1x2048x1024 .f32) (c : Dev nD) (f : Bf F c M) (R : Rows F) (d : Bool) (q : Dev nD)
    (w : FVec F S1x256x1024 .f32) (hf : ∀ d q, M.view.readAt (Elt F) (rowRect d q).toLoadRect f = R d q) (d' : Bool) (q' : Dev nD) :
    M.view.readAt (Elt F) (rowRect d' q').toLoadRect (M.view.writes (Elt F) f [⟨rowRect d q, w⟩]) = setRow d q w R d' q' := by
  unfold setRow
  by_cases h : d' = d ∧ q' = q
  · rw [if_pos h]; obtain ⟨rfl, rfl⟩ := h
    exact View.read_write_univ _ _
  · rw [if_neg h, ← hf d' q']
    funext x
    exact M.view.read_writes_cons_miss f ⟨rowRect d q, w⟩ [] _ (row_miss h x)

/-! ## One load or store -/

section Steps

variable (c : Dev nD)

/-- What a program of device `c` is run for. -/
abbrev runs {α : Type} (p : Prog (TpuEff nD τ sig (Elt F) Λ₀ .tc) α) (Q : α → sProp 𝕄) : sProp 𝕄 :=
  wp frame (wpE (defs₀ (F := F)) 𝒱₀ c none) Set.univ p Q

theorem ld_row {α : Type} (Q : α → sProp 𝕄) (M : Memref sig .tc .vmem S1x2048x1024 .f32) (R : Rows F) (d : Bool) (q : Dev nD)
    (kk : Vec F S1x256x1024 .f32 → Prog (TpuEff nD τ sig (Elt F) Λ₀ .tc) α) (hl : M.view.LoadsAt (rowRect d q).toLoadRect) :
    (rowsAre c M R : sProp 𝕄) ⊢ iprop((rowsAre c M R -∗ runs c (kk (R d q)) Q) -∗ runs c (.op (.load M (rowRect d q).toLoadRect hl) kk) Q) := by
  unfold rowsAre
  iintro ⟨%f, %hf, H⟩ Hk
  iapply (wp_load 𝒱₀ (c : Thread nD τ) none Set.univ (m := M) (r := (rowRect d q).toLoadRect) (S := Finset.univ) (q := fullShare) (f := f) (Finset.subset_univ _)) $$ H
  iintro H
  rw [hf d q]
  iapply Hk
  iexists f
  isplitr; · ipureintro; exact hf
  iexact H

theorem st_row {α : Type} (Q : α → sProp 𝕄) (M : Memref sig .tc .vmem S1x2048x1024 .f32) (R : Rows F) (d : Bool) (q : Dev nD) (w : FVec F S1x256x1024 .f32)
    (kk : PUnit → Prog (TpuEff nD τ sig (Elt F) Λ₀ .tc) α) (hx : (M.access (rowRect d q)).Stores Finset.univ) (hm : Finset.univ = Finset.univ ∨ ∀ a, (rowRect d q).stride a = 1) :
    (rowsAre c M R : sProp 𝕄) ⊢ iprop((rowsAre c M (setRow d q w R) -∗ runs c (kk ⟨⟩) Q) -∗ runs c (.op (.store M (rowRect d q) w Finset.univ hx hm) kk) Q) := by
  unfold rowsAre
  iintro ⟨%f, %hf, H⟩ Hk
  iapply (wp_store_writes₀ 𝒱₀ (c : Thread nD τ) none Set.univ (m := M) (r := rowRect d q) (w := w) (S := Finset.univ) (f := f) (Finset.subset_univ _)) $$ H
  iintro H
  iapply Hk
  iexists _
  isplitr; · ipureintro; exact fun d' q' => read_setRow M c f R d q w hf d' q'
  iexact H

/-- A load of a slot at `v`, and the (unused) load and the store with which a slot is filled; through the whole
    buffer's memref `B` of any shape. -/
theorem ld_slot {α : Type} (Q : α → sProp 𝕄) {S : Shape} (B : Memref sig .tc .vmem S .bf16) (r : Rect S) (hr : ∀ a, r.stride a = 1) (hq : r.shape.Squeezes S256x1024)
    (hc : r.shape.ShapeCasts S256x1024) (v : FVec F S256x1024 .bf16)
    (kk : Vec F r.shape .bf16 → Prog (TpuEff nD τ sig (Elt F) Λ₀ .tc) α) (hl : B.view.LoadsAt r.toLoadRect) :
    (holds c ((B.slice r hr).squeeze S256x1024 hq) v : sProp 𝕄)
      ⊢ iprop((∀ w : Vec F r.shape .bf16, ⌜shapeCast S256x1024 w hc = v⌝ -∗ holds c ((B.slice r hr).squeeze S256x1024 hq) v -∗ runs c (kk w) Q)
        -∗ runs c (.op (.load B r.toLoadRect hl) kk) Q) := by
  have hs : ((B.slice r hr).squeeze S256x1024 hq).view.set = B.view.setOn r.toLoadRect.set :=
    (View.set_reshape _ _).trans (B.view.set_slice r)
  unfold holds
  iintro ⟨%f, %hf, H⟩ Hk
  rw [hs]
  iapply (wp_load 𝒱₀ (c : Thread nD τ) none Set.univ (m := B) (r := r.toLoadRect) (S := B.view.setOn r.toLoadRect.set) (q := fullShare) (f := f) (Finset.Subset.refl _)) $$ H
  iintro H
  iapply Hk $$ %_ %_ [H]
  · exact (Memref.read_squeeze_slice B r hr hq hc f).symm.trans hf
  iexists f
  isplitr; · ipureintro; exact hf
  iexact H

/-- A load of a slot whose contents are not used. -/
theorem ld_room {α : Type} (Q : α → sProp 𝕄) {S : Shape} (B : Memref sig .tc .vmem S .bf16) (r : Rect S) (hr : ∀ a, r.stride a = 1) (hq : r.shape.Squeezes S256x1024)
    (kk : Vec F r.shape .bf16 → Prog (TpuEff nD τ sig (Elt F) Λ₀ .tc) α) (hl : B.view.LoadsAt r.toLoadRect) :
    (room c ((B.slice r hr).squeeze S256x1024 hq) : sProp 𝕄)
      ⊢ iprop((∀ w : Vec F r.shape .bf16, room c ((B.slice r hr).squeeze S256x1024 hq) -∗ runs c (kk w) Q)
        -∗ runs c (.op (.load B r.toLoadRect hl) kk) Q) := by
  have hs : ((B.slice r hr).squeeze S256x1024 hq).view.set = B.view.setOn r.toLoadRect.set :=
    (View.set_reshape _ _).trans (B.view.set_slice r)
  unfold room
  iintro ⟨%f, H⟩ Hk
  rw [hs]
  iapply (wp_load 𝒱₀ (c : Thread nD τ) none Set.univ (m := B) (r := r.toLoadRect) (S := B.view.setOn r.toLoadRect.set) (q := fullShare) (f := f) (Finset.Subset.refl _)) $$ H
  iintro H
  iapply Hk $$ %_ [H]
  iexists f
  iexact H

/-- A store that fills a slot. -/
theorem st_slot {α : Type} (Q : α → sProp 𝕄) {S : Shape} (B : Memref sig .tc .vmem S .bf16) (r : Rect S) (hr : ∀ a, r.stride a = 1) (hq : r.shape.Squeezes S256x1024)
    (hc : r.shape.ShapeCasts S256x1024) (w : Vec F r.shape .bf16)
    (kk : PUnit → Prog (TpuEff nD τ sig (Elt F) Λ₀ .tc) α) (hx : (B.access r).Stores Finset.univ) (hm : Finset.univ = Finset.univ ∨ ∀ a, r.stride a = 1) :
    (room c ((B.slice r hr).squeeze S256x1024 hq) : sProp 𝕄)
      ⊢ iprop((holds c ((B.slice r hr).squeeze S256x1024 hq) (shapeCast S256x1024 w hc) -∗ runs c (kk ⟨⟩) Q)
        -∗ runs c (.op (.store B r w Finset.univ hx hm) kk) Q) := by
  have hs : ((B.slice r hr).squeeze S256x1024 hq).view.set = (B.access r).set := View.set_reshape _ _
  unfold room holds
  iintro ⟨%f, H⟩ Hk
  rw [hs]
  iapply (wp_store 𝒱₀ (c : Thread nD τ) none Set.univ (m := B) (r := r) (w := w) (Mk := Finset.univ) (S := (B.access r).set) (f := f) (Finset.Subset.refl _)) $$ H
  iintro H
  iapply Hk
  iexists ((B.access r).write (Elt F) f w Finset.univ)
  isplitr
  · ipureintro
    refine (Memref.read_squeeze_slice B r hr hq hc _).trans (congrArg (fun z => shapeCast S256x1024 z hc) ?_)
    exact View.read_write_univ (v := B.access r) _ _
  iexact H

end Steps

/-! ## The program of the rings -/

/-- What the stores write, of what the loads read. -/
def pkP (r : FVec F S1x256x1024 .f32) : FVec F S1x256x1024 .bf16 := shapeCast S1x256x1024 (pkV r) shapeCasts_S256x1024_S1x256x1024
def accP (w : FVec F S1x256x1024 .bf16) (r : FVec F S1x256x1024 .f32) : FVec F S1x256x1024 .bf16 :=
  shapeCast S1x256x1024 (accV (shapeCast S256x1024 w shapeCasts_S1x256x1024_S256x1024) r) shapeCasts_S256x1024_S1x256x1024
def finP (w : FVec F S1x256x1024 .bf16) (r : FVec F S1x256x1024 .f32) : FVec F S1x256x1024 .f32 :=
  accF (shapeCast S256x1024 w shapeCasts_S1x256x1024_S256x1024) r
def extP (w : FVec F S1x256x1024 .bf16) : FVec F S1x256x1024 .f32 := extF (shapeCast S256x1024 w shapeCasts_S1x256x1024_S256x1024)

theorem cast_pkP (r : FVec F S1x256x1024 .f32) : shapeCast S256x1024 (pkP r) shapeCasts_S1x256x1024_S256x1024 = pkV r :=
  shapeCast_shapeCast _ _ _
theorem cast_accP (w : FVec F S1x256x1024 .bf16) (r : FVec F S1x256x1024 .f32) (v : FVec F S256x1024 .bf16)
    (h : shapeCast S256x1024 w shapeCasts_S1x256x1024_S256x1024 = v) :
    shapeCast S256x1024 (accP w r) shapeCasts_S1x256x1024_S256x1024 = accV v r := by
  unfold accP; rw [h]; exact shapeCast_shapeCast _ _ _

abbrev Code (F : FTy → Type) [FloatOps F] [Named F] : Type → Type 1 := Prog (TpuEff nD τ sig (Elt F) Λ₀ .tc)

section Program

/-- The row blocks of the output a direction touches, by half and step. -/
structure Offs where
  o : Bool → Fin 4 → Fin 3 → ℕ
  h : ∀ d k a, o d k a + S1x256x1024.size a ≤ S1x2048x1024.size a

abbrev Offs.rect (O : Offs) (d : Bool) (k : Fin 4) : Rect S1x2048x1024 := outRect (O.o d k) (O.h d k)

variable (M : Memref sig .tc .vmem S1x2048x1024 .f32) (O : Offs)

def rowP (d : Bool) (k : Fin 4) : Code F (Vec F S1x256x1024 .f32) :=
  Prog.lift (.load M (O.rect d k).toLoadRect (View.loadsAt_vmem h_S1x256x1024))
def keepP (d : Bool) (k : Fin 4) (w : FVec F S1x256x1024 .f32) : Code F PUnit := do
  let _ : Vec F S1x256x1024 .f32 ← rowP M O d k
  Prog.lift (.store M (O.rect d k) w Finset.univ (View.stores_vmem_bits_univ h_S1x256x1024 rfl) (.inl rfl))
def landP (d : Bool) (k : Fin 3) : Code F (Vec F S1x256x1024 .bf16) :=
  Prog.lift (.load (rsR d) (slotRect k).toLoadRect (View.loadsAt_vmem h_S1x256x1024))
def backP (d : Bool) (k : Fin 3) : Code F (Vec F S1x256x1024 .bf16) :=
  Prog.lift (.load (agR d) (slotRect k).toLoadRect (View.loadsAt_vmem h_S1x256x1024))
def fill3 (d : Bool) (k : Fin 3) (w : FVec F S1x256x1024 .bf16) : Code F PUnit := do
  let _ : Vec F S1x256x1024 .bf16 ← Prog.lift (.load (rsS d) (slotRect k).toLoadRect (View.loadsAt_vmem h_S1x256x1024))
  Prog.lift (.store (rsS d) (slotRect k) w Finset.univ (slot3_stores _ (rsS_whole d) k) (.inl rfl))
def fill1 (d : Bool) (w : FVec F S1x256x1024 .bf16) : Code F PUnit := do
  let _ : Vec F S1x256x1024 .bf16 ← Prog.lift (.load (agS d) oneRect.toLoadRect (View.loadsAt_vmem h_S1x256x1024))
  Prog.lift (.store (agS d) oneRect w Finset.univ (slot1_stores _ (agS_whole d)) (.inl rfl))

/-- The first blocks packed into the send slots. -/
def firstP : Code F PUnit := do
  let r ← rowP M O false 0
  fill3 false 0 (pkP r)
  let r' ← rowP M O true 0
  fill3 true 0 (pkP r')
/-- What landed, with the next own block added, into the next send slots. -/
def midP (kp ks : Fin 3) (k : Fin 4) : Code F PUnit := do
  let w ← landP false kp
  let r ← rowP M O false k
  let w' ← landP true kp
  let r' ← rowP M O true k
  fill3 false ks (accP w r)
  fill3 true ks (accP w' r')
/-- The last addition: the finished chunks kept, and put out to be passed round. -/
def lastP : Code F PUnit := do
  let w ← landP false 2
  let r ← rowP M O false 3
  let w' ← landP true 2
  let r' ← rowP M O true 3
  keepP M O false 3 (finP w r)
  keepP M O true 3 (finP w' r')
  fill1 false (accP w r)
  fill1 true (accP w' r')
/-- A finished chunk of another device, stored. -/
def foldP (j : Fin 3) (k : Fin 4) : Code F PUnit := do
  let w ← backP false j
  keepP M O false k (extP w)
  let w' ← backP true j
  keepP M O true k (extP w')
/-- The last handshake. -/
def byeP (dev : Bool → Dev nD) : Code F PUnit := do
  semSignalWord (dev true) endS 1#32
  semSignalWord (dev false) endS 1#32
  semWaitWord endS 2#32

def ringP (dev : Fin 7 → Bool → Dev nD) : Code F PUnit := do
  firstP M O
  exch (dev 0) 0
  midP M O 0 1 1
  exch (dev 1) 1
  midP M O 1 2 2
  exch (dev 2) 2
  lastP M O
  exch (dev 3) 3
  foldP M O 0 0
  exch (dev 4) 4
  foldP M O 1 1
  exch (dev 5) 5
  foldP M O 2 2
  byeP (dev 6)
  pure ⟨⟩

/-- The row blocks and the devices as the body computes them. -/
def bodyOffs (c : Dev nD) : Offs where
  o | false, 0 => k0_off1 c 0#32
    | false, 1 => k0_off1 c 4294967295#32
    | false, 2 => k0_off1 c 4294967294#32
    | false, 3 => k0_off1 c 4294967293#32
    | true, 0 => k0_off2 c 0#32
    | true, 1 => k0_off2 c 1#32
    | true, 2 => k0_off2 c 2#32
    | true, 3 => k0_off2 c 3#32
  h | false, 0 => k0_off1_inb c 0
    | false, 1 => k0_off1_inb c 1
    | false, 2 => k0_off1_inb c 2
    | false, 3 => k0_off1_inb c 3
    | true, 0 => k0_off2_inb c 0
    | true, 1 => k0_off2_inb c 1
    | true, 2 => k0_off2_inb c 2
    | true, 3 => k0_off2_inb c 3
def bodyDev (c : Dev nD) : Fin 7 → Bool → Dev nD
  | 0, false => ⟨k0_dev3 c, k0_dev3_lt c⟩
  | 0, true => ⟨k0_dev4 c, k0_dev4_lt c⟩
  | 1, false => ⟨k0_dev5 c, k0_dev5_lt c⟩
  | 1, true => ⟨k0_dev6 c, k0_dev6_lt c⟩
  | 2, false => ⟨k0_dev7 c, k0_dev7_lt c⟩
  | 2, true => ⟨k0_dev8 c, k0_dev8_lt c⟩
  | 3, false => ⟨k0_dev9 c, k0_dev9_lt c⟩
  | 3, true => ⟨k0_dev10 c, k0_dev10_lt c⟩
  | 4, false => ⟨k0_dev11 c, k0_dev11_lt c⟩
  | 4, true => ⟨k0_dev12 c, k0_dev12_lt c⟩
  | 5, false => ⟨k0_dev13 c, k0_dev13_lt c⟩
  | 5, true => ⟨k0_dev14 c, k0_dev14_lt c⟩
  | 6, false => ⟨k0_dev16 c, k0_dev16_lt c⟩
  | 6, true => ⟨k0_dev15 c, k0_dev15_lt c⟩

set_option maxRecDepth 65536 in
/-- The second half of the body, over the call's buffers and semaphores, is that program. -/
theorem tail_eq (c : Dev nD) (v2 v5 v7 : BitVec 32)
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (M6 : Memref sig .tc .vmem S2048x1024 .bf16) (h6 : M6.IsWhole) (M7 : Memref sig .tc .vmem S2048x1024 .bf16) (h7 : M7.IsWhole) :
    tailProg M0 h0 M1 h1 M2 h2 M3 h3 M4 h4 M5 h5 M6 h6 M7 h7
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) (Memref.whole cc0_scratch7) (Memref.isWhole_whole _)
      (Memref.whole cc0_scratch8) (Memref.isWhole_whole _) (Memref.whole cc0_scratch9) (Memref.isWhole_whole _)
      cc0_scratch10 cc0_scratch11 cc0_scratch12 cc0_scratch13 cc0_scoped0 c v2 v5 v7
      = ringP (F := F) M5 (bodyOffs c) (bodyDev c) := by
  rfl

end Program

/-! ## The same offsets and devices in plain terms -/

def rowOffs (c : Dev nD) : Offs where
  o d k := rowOff d (chunk d k.val c)
  h d k := rowOff_inb d (chunk d k.val c)

theorem off_false : ∀ (c : Dev nD) (k : Fin 4) (a : Fin 3), (bodyOffs c).o false k a = rowOff false (chunk false k.val c) a := by decide +kernel
theorem off_true : ∀ (c : Dev nD) (k : Fin 4) (a : Fin 3), (bodyOffs c).o true k a = rowOff true (chunk true k.val c) a := by decide +kernel
theorem Offs.ext' {O O' : Offs} (h : ∀ d k, O.o d k = O'.o d k) : O = O' := by
  cases O; cases O'
  congr
  funext d k; exact h d k
theorem bodyOffs_eq (c : Dev nD) : bodyOffs c = rowOffs c :=
  Offs.ext' fun d k => funext fun a => by
    cases d
    · exact off_false c k a
    · exact off_true c k a
theorem bodyDev_eq (c : Dev nD) : bodyDev c = fun _ d => nb d c := by
  have h : ∀ (c : Dev nD) (i : Fin 7) (d : Bool), (bodyDev c i d).val = (nb d c).val := by decide +kernel
  funext i d; exact Fin.ext (h c i d)

/-! ## The run of each part -/

section Parts

variable (c : Dev nD) (M : Memref sig .tc .vmem S1x2048x1024 .f32)

theorem done {α : Type} (Q : α → sProp 𝕄) (v : α) : (Q v : sProp 𝕄) ⊢ wp frame (wpE (defs₀ (F := F)) 𝒱₀ c none) Set.univ (Prog.ret v) Q := by
  rw [wp_ret]; iintro H; imodintro; iexact H

theorem runs_bind {α β : Type} (p : Prog (TpuEff nD τ sig (Elt F) Λ₀ .tc) α) (k : α → Prog (TpuEff nD τ sig (Elt F) Λ₀ .tc) β) (Q : β → sProp 𝕄) :
    runs c (p >>= k) Q = runs c p (fun x => runs c (k x) Q) := wp_bind _ _ _ _ _ _

theorem row_run (R : Rows F) (d : Bool) (k : Fin 4) (Q : Vec F S1x256x1024 .f32 → sProp 𝕄) :
    iprop(rowsAre c M R ∗ (rowsAre c M R -∗ Q (R d (chunk d k.val c)))) ⊢ runs c (rowP M (rowOffs c) d k) Q := by
  iintro ⟨H, Hk⟩
  iapply (ld_row c Q M R d (chunk d k.val c) .ret (View.loadsAt_vmem h_S1x256x1024)) $$ H
  iintro H
  iapply (done c Q)
  iapply Hk; iexact H

theorem keep_run (R : Rows F) (d : Bool) (k : Fin 4) (w : FVec F S1x256x1024 .f32) (Q : PUnit → sProp 𝕄) :
    iprop(rowsAre c M R ∗ (rowsAre c M (setRow d (chunk d k.val c) w R) -∗ Q ⟨⟩)) ⊢ runs c (keepP M (rowOffs c) d k w) Q := by
  iintro ⟨H, Hk⟩
  unfold keepP
  rw [runs_bind]
  iapply (row_run c M R d k)
  isplitl [H]; · iexact H
  iintro H
  iapply (st_row c Q M R d (chunk d k.val c) w .ret (View.stores_vmem_bits_univ h_S1x256x1024 rfl) (.inl rfl)) $$ H
  iintro H
  iapply (done c Q)
  iapply Hk; iexact H

theorem land_run (d : Bool) (k : Fin 3) (v : FVec F S256x1024 .bf16) (Q : Vec F S1x256x1024 .bf16 → sProp 𝕄) :
    iprop(holds c (slot3 (rsR d) k) v ∗ (∀ w : Vec F S1x256x1024 .bf16, ⌜shapeCast S256x1024 w shapeCasts_S1x256x1024_S256x1024 = v⌝ -∗ holds c (slot3 (rsR d) k) v -∗ Q w))
      ⊢ runs c (landP (F := F) d k) Q := by
  iintro ⟨H, Hk⟩
  iapply (ld_slot c Q (rsR d) (slotRect k) (fun _ => rfl) squeezes_S1x256x1024_S256x1024 shapeCasts_S1x256x1024_S256x1024 v .ret (View.loadsAt_vmem h_S1x256x1024)) $$ H
  iintro %w %hw H
  iapply (done c Q)
  iapply Hk $$ %w
  · ipureintro; exact hw
  iexact H

theorem back_run (d : Bool) (k : Fin 3) (v : FVec F S256x1024 .bf16) (Q : Vec F S1x256x1024 .bf16 → sProp 𝕄) :
    iprop(holds c (slot3 (agR d) k) v ∗ (∀ w : Vec F S1x256x1024 .bf16, ⌜shapeCast S256x1024 w shapeCasts_S1x256x1024_S256x1024 = v⌝ -∗ holds c (slot3 (agR d) k) v -∗ Q w))
      ⊢ runs c (backP (F := F) d k) Q := by
  iintro ⟨H, Hk⟩
  iapply (ld_slot c Q (agR d) (slotRect k) (fun _ => rfl) squeezes_S1x256x1024_S256x1024 shapeCasts_S1x256x1024_S256x1024 v .ret (View.loadsAt_vmem h_S1x256x1024)) $$ H
  iintro %w %hw H
  iapply (done c Q)
  iapply Hk $$ %w
  · ipureintro; exact hw
  iexact H

theorem fill3_run (d : Bool) (k : Fin 3) (w : FVec F S1x256x1024 .bf16) (v : FVec F S256x1024 .bf16)
    (hv : shapeCast S256x1024 w shapeCasts_S1x256x1024_S256x1024 = v) (Q : PUnit → sProp 𝕄) :
    iprop(room c (slot3 (rsS d) k) ∗ (holds c (slot3 (rsS d) k) v -∗ Q ⟨⟩)) ⊢ runs c (fill3 d k w) Q := by
  subst hv
  iintro ⟨H, Hk⟩
  unfold fill3
  rw [Prog.bind_lift]
  iapply (ld_room c Q (rsS d) (slotRect k) (fun _ => rfl) squeezes_S1x256x1024_S256x1024 _ (View.loadsAt_vmem h_S1x256x1024)) $$ H
  iintro %w' H
  iapply (st_slot c Q (rsS d) (slotRect k) (fun _ => rfl) squeezes_S1x256x1024_S256x1024 shapeCasts_S1x256x1024_S256x1024 w .ret (slot3_stores _ (rsS_whole d) k) (.inl rfl)) $$ H
  iintro H
  iapply (done c Q)
  iapply Hk; iexact H

theorem fill1_run (d : Bool) (w : FVec F S1x256x1024 .bf16) (v : FVec F S256x1024 .bf16)
    (hv : shapeCast S256x1024 w shapeCasts_S1x256x1024_S256x1024 = v) (Q : PUnit → sProp 𝕄) :
    iprop(room c (slot1 (agS d)) ∗ (holds c (slot1 (agS d)) v -∗ Q ⟨⟩)) ⊢ runs c (fill1 d w) Q := by
  subst hv
  iintro ⟨H, Hk⟩
  unfold fill1
  rw [Prog.bind_lift]
  iapply (ld_room c Q (agS d) oneRect (fun _ => rfl) squeezes_S1x256x1024_S256x1024 _ (View.loadsAt_vmem h_S1x256x1024)) $$ H
  iintro %w' H
  iapply (st_slot c Q (agS d) oneRect (fun _ => rfl) squeezes_S1x256x1024_S256x1024 shapeCasts_S1x256x1024_S256x1024 w .ret (slot1_stores _ (agS_whole d)) (.inl rfl)) $$ H
  iintro H
  iapply (done c Q)
  iapply Hk; iexact H

theorem first_run (R : Rows F) (Q : PUnit → sProp 𝕄) :
    iprop(rowsAre c M R ∗ room c (slot3 (rsS false) 0) ∗ room c (slot3 (rsS true) 0)
      ∗ (rowsAre c M R -∗ holds c (slot3 (rsS false) 0) (pkV (R false c)) -∗ holds c (slot3 (rsS true) 0) (pkV (R true c)) -∗ Q ⟨⟩))
      ⊢ runs c (firstP M (rowOffs c)) Q := by
  iintro ⟨H, Ha, Hb, Hk⟩
  unfold firstP
  rw [runs_bind]
  iapply (row_run c M R false 0)
  isplitl [H]; · iexact H
  iintro H
  rw [runs_bind]
  iapply (fill3_run c false 0 _ _ (cast_pkP _))
  isplitl [Ha]; · iexact Ha
  iintro Ha
  rw [runs_bind]
  iapply (row_run c M R true 0)
  isplitl [H]; · iexact H
  iintro H
  iapply (fill3_run c true 0 _ _ (cast_pkP _))
  isplitl [Hb]; · iexact Hb
  iintro Hb
  iapply Hk $$ [H] [Ha] [Hb]
  · iexact H
  · iexact Ha
  iexact Hb

theorem mid_run (R : Rows F) (kp ks : Fin 3) (k : Fin 4) (v v' : FVec F S256x1024 .bf16) (Q : PUnit → sProp 𝕄) :
    iprop(rowsAre c M R ∗ holds c (slot3 (rsR false) kp) v ∗ holds c (slot3 (rsR true) kp) v' ∗ room c (slot3 (rsS false) ks) ∗ room c (slot3 (rsS true) ks)
      ∗ (rowsAre c M R -∗ holds c (slot3 (rsR false) kp) v -∗ holds c (slot3 (rsR true) kp) v'
        -∗ holds c (slot3 (rsS false) ks) (accV v (R false (chunk false k.val c))) -∗ holds c (slot3 (rsS true) ks) (accV v' (R true (chunk true k.val c))) -∗ Q ⟨⟩))
      ⊢ runs c (midP M (rowOffs c) kp ks k) Q := by
  iintro ⟨H, Hl, Hl', Ha, Hb, Hk⟩
  unfold midP
  rw [runs_bind]
  iapply (land_run c false kp v)
  isplitl [Hl]; · iexact Hl
  iintro %w %hw Hl
  rw [runs_bind]
  iapply (row_run c M R false k)
  isplitl [H]; · iexact H
  iintro H
  rw [runs_bind]
  iapply (land_run c true kp v')
  isplitl [Hl']; · iexact Hl'
  iintro %w' %hw' Hl'
  rw [runs_bind]
  iapply (row_run c M R true k)
  isplitl [H]; · iexact H
  iintro H
  rw [runs_bind]
  iapply (fill3_run c false ks _ _ (cast_accP _ _ _ hw))
  isplitl [Ha]; · iexact Ha
  iintro Ha
  iapply (fill3_run c true ks _ _ (cast_accP _ _ _ hw'))
  isplitl [Hb]; · iexact Hb
  iintro Hb
  iapply Hk $$ [H] [Hl] [Hl'] [Ha] [Hb]
  · iexact H
  · iexact Hl
  · iexact Hl'
  · iexact Ha
  iexact Hb

theorem last_run (R : Rows F) (v v' : FVec F S256x1024 .bf16) (Q : PUnit → sProp 𝕄) :
    iprop(rowsAre c M R ∗ holds c (slot3 (rsR false) 2) v ∗ holds c (slot3 (rsR true) 2) v' ∗ room c (slot1 (agS false)) ∗ room c (slot1 (agS true))
      ∗ (rowsAre c M (setRow true (chunk true 3 c) (accF v' (R true (chunk true 3 c))) (setRow false (chunk false 3 c) (accF v (R false (chunk false 3 c))) R))
        -∗ holds c (slot3 (rsR false) 2) v -∗ holds c (slot3 (rsR true) 2) v'
        -∗ holds c (slot1 (agS false)) (accV v (R false (chunk false 3 c))) -∗ holds c (slot1 (agS true)) (accV v' (R true (chunk true 3 c))) -∗ Q ⟨⟩))
      ⊢ runs c (lastP M (rowOffs c)) Q := by
  iintro ⟨H, Hl, Hl', Ha, Hb, Hk⟩
  unfold lastP
  rw [runs_bind]
  iapply (land_run c false 2 v)
  isplitl [Hl]; · iexact Hl
  iintro %w %hw Hl
  rw [runs_bind]
  iapply (row_run c M R false 3)
  isplitl [H]; · iexact H
  iintro H
  rw [runs_bind]
  iapply (land_run c true 2 v')
  isplitl [Hl']; · iexact Hl'
  iintro %w' %hw' Hl'
  rw [runs_bind]
  iapply (row_run c M R true 3)
  isplitl [H]; · iexact H
  iintro H
  rw [runs_bind]
  iapply (keep_run c M R false 3)
  isplitl [H]; · iexact H
  iintro H
  rw [runs_bind]
  iapply (keep_run c M _ true 3)
  isplitl [H]; · iexact H
  iintro H
  rw [runs_bind]
  iapply (fill1_run c false _ _ (cast_accP _ _ _ hw))
  isplitl [Ha]; · iexact Ha
  iintro Ha
  iapply (fill1_run c true _ _ (cast_accP _ _ _ hw'))
  isplitl [Hb]; · iexact Hb
  iintro Hb
  subst hw hw'
  iapply Hk $$ [H] [Hl] [Hl'] [Ha] [Hb]
  · iexact H
  · iexact Hl
  · iexact Hl'
  · iexact Ha
  iexact Hb

theorem fold_run (R : Rows F) (j : Fin 3) (k : Fin 4) (v v' : FVec F S256x1024 .bf16) (Q : PUnit → sProp 𝕄) :
    iprop(rowsAre c M R ∗ holds c (slot3 (agR false) j) v ∗ holds c (slot3 (agR true) j) v'
      ∗ (rowsAre c M (setRow true (chunk true k.val c) (extF v') (setRow false (chunk false k.val c) (extF v) R))
        -∗ holds c (slot3 (agR false) j) v -∗ holds c (slot3 (agR true) j) v' -∗ Q ⟨⟩))
      ⊢ runs c (foldP M (rowOffs c) j k) Q := by
  iintro ⟨H, Hl, Hl', Hk⟩
  unfold foldP
  rw [runs_bind]
  iapply (back_run c false j v)
  isplitl [Hl]; · iexact Hl
  iintro %w %hw Hl
  rw [runs_bind]
  iapply (keep_run c M R false k)
  isplitl [H]; · iexact H
  iintro H
  rw [runs_bind]
  iapply (back_run c true j v')
  isplitl [Hl']; · iexact Hl'
  iintro %w' %hw' Hl'
  iapply (keep_run c M _ true k)
  isplitl [H]; · iexact H
  iintro H
  subst hw hw'
  iapply Hk $$ [H] [Hl] [Hl']
  · iexact H
  · iexact Hl
  iexact Hl'

end Parts

/-! ## The last handshake -/

section Bye

variable (P : Blocks F)

theorem rest_end (c : Dev nD) : bigSep ((ringRd P).duties (endCell c) 0 \ ∅) (fun u => (ringRd P).payload (endCell c) 0 u)
    = (iprop(emp ∗ emp) : sProp 𝕄) := by
  rw [Finset.sdiff_empty, duties_end, bigSep_eq_bigSepL_of_eq [false, true] (by decide) (by decide)]
  show iprop((ringRd P).payload (endCell c) 0 false ∗ (ringRd P).payload (endCell c) 0 true) = _
  rw [payload_end, payload_end]

/-- What the last handshake takes. -/
def byes (c : Dev nD) : sProp 𝕄 :=
  iprop(dutyTok ER (endCell (prv c)) 0 false ∗ dutyTok ER (endCell (nxt c)) 0 true
    ∗ reached ER (endCell (prv c)) 0 ∗ reached ER (endCell (nxt c)) 0
    ∗ cred (tallyAt (endCell c) () 2) ∗ atPos ER (endCell c) 0 ∅ 0)

theorem bye_run (κ : GSem nD τ sig → ℕ) (c : Dev nD) (Q : PUnit → sProp 𝕄) :
    iprop(recs P κ ∗ levAts L lv ∗ byes c ∗ (∃ W, owes (c : Thread nD τ) (due c 0) W)
      ∗ (semVal (endCell c) 0 -∗ (∃ W, owes (c : Thread nD τ) 0 W) -∗ Q ⟨⟩))
      ⊢ runs c (byeP (F := F) (fun d => nb d c)) Q := by
  unfold byes byeP
  iintro ⟨#HR, #Hlev, ⟨Ht, Ht', Hr, Hr', Hc, Hat⟩, ⟨%W, HO⟩, Hk⟩
  simp only [semSignalWord, semWaitWord, runs]
  rw [wp_bind]
  iapply (Rounds.wp_signal 𝒱₀ ER (ringRd P) (c : Thread nD τ) none (dst := (prv c : Thread nD τ)) (sem := endS) (r := 0) (d := false) (κ := κ (endCell (prv c)))
      (by rw [duties_end]; exact Finset.mem_univ _) ((amount_end P (prv c) false).trans (by decide)) () (tallyAt (endCell (nxt c)) () 1) rfl (W := W)) $$ [HO Ht Hr]
  · isplitr; · iapply (recs_end P κ (prv c)); iexact HR
    isplitl [HO]; · iexact HO
    isplitl [Ht]; · iexact Ht
    isplitr [Hr]; · rw [payload_end]; iempintro
    iexact Hr
  iintro HO
  iapply (done c)
  rw [wp_bind]
  iapply (Rounds.wp_signal 𝒱₀ ER (ringRd P) (c : Thread nD τ) none (dst := (nxt c : Thread nD τ)) (sem := endS) (r := 0) (d := true) (κ := κ (endCell (nxt c)))
      (by rw [duties_end]; exact Finset.mem_univ _) ((amount_end P (nxt c) true).trans (by decide)) () 0 (zero_add _).symm (W := W)) $$ [HO Ht' Hr']
  · isplitr; · iapply (recs_end P κ (nxt c)); iexact HR
    isplitl [HO]; · iexact HO
    isplitl [Ht']; · iexact Ht'
    isplitr [Hr']; · rw [payload_end]; iempintro
    iexact Hr'
  iintro HO
  iapply (done c)
  iapply (Rounds.wp_wait_rest_token 𝒱₀ ER (ringRd P) (c : Thread nD τ) none (κ := κ (endCell c))
      (wpE_semWait_eq 𝒱₀ (c : Thread nD τ) none Set.univ) (Set.mem_univ _) () (O := 0) (W := W) (R := 0) (m := 0) (T := ∅)
      ((by decide : 0 + (2#32).toInt.toNat = 2).trans (expect_end P c).symm)) $$ [Hc HO Hat]
  · isplitr; · iapply (recs_end P κ c); iexact HR
    isplitl [Hc]; · iexact Hc
    isplitl [HO]; · iexact HO
    isplitr; · rw [MayWait_zero]; iempintro
    iexact Hat
  iintro ⟨HO, Hat, -, -⟩
  rw [wp_ret]
  imod (close P (κ (endCell c)) (endCell c)) $$ [Hat] with H1
  · isplitr; · iapply (recs_end P κ c); iexact HR
    iexact Hat
  imodintro
  iapply Hk $$ H1 [HO]
  iexists _; iexact HO

end Bye

/-! ## The whole run -/

section Ring

variable (P : Blocks F)

/-- The output at the end: its last chunk of either half is the finished sum, the others what was passed round. -/
def endRows (c : Dev nD) : Rows F :=
  let R₁ := setRow true (chunk true 3 c) (accF (sent P true 2 (nb false c)) (P c true (chunk true 3 c)))
    (setRow false (chunk false 3 c) (accF (sent P false 2 (nb true c)) (P c false (chunk false 3 c))) (P c))
  let R₂ := setRow true (chunk true 0 c) (extF (sent P true 3 (nb false c))) (setRow false (chunk false 0 c) (extF (sent P false 3 (nb true c))) R₁)
  let R₃ := setRow true (chunk true 1 c) (extF (sent P true 4 (nb false c))) (setRow false (chunk false 1 c) (extF (sent P false 4 (nb true c))) R₂)
  setRow true (chunk true 2 c) (extF (sent P true 5 (nb false c))) (setRow false (chunk false 2 c) (extF (sent P false 5 (nb true c))) R₃)

/-- The send slots of a direction, and the slots it lands in. -/
def outSlots (d : Bool) (c : Dev nD) : sProp 𝕄 :=
  iprop(room c (slot3 (rsS d) 0) ∗ room c (slot3 (rsS d) 1) ∗ room c (slot3 (rsS d) 2) ∗ room c (slot1 (agS d)))
def inSlots (d : Bool) (c : Dev nD) : sProp 𝕄 :=
  iprop(room c (dstM d 0) ∗ room c (dstM d 1) ∗ room c (dstM d 2) ∗ room c (dstM d 3) ∗ room c (dstM d 4) ∗ room c (dstM d 5))
/-- All six exchanges' needs of a direction. -/
def bringsAll (d : Bool) (c : Dev nD) : sProp 𝕄 :=
  iprop(brings d 0 c ∗ brings d 1 c ∗ brings d 2 c ∗ brings d 3 c ∗ brings d 4 c ∗ brings d 5 c)
/-- The own semaphores at zero. -/
def zeros (c : Dev nD) : sProp 𝕄 := bigSep Finset.univ fun i : Fin 25 => semVal (cell i c) 0

theorem room_of (c : Dev nD) (B : Memref sig .tc .vmem S256x1024 .bf16) (v : FVec F S256x1024 .bf16) : (holds c B v : sProp 𝕄) ⊢ room c B := room_of_holds c B v

theorem zeros_intro (c : Dev nD) :
    iprop((semVal (sendCell false 0 c) 0 ∗ semVal (recvCell false 0 c) 0 ∗ semVal (sendCell true 0 c) 0 ∗ semVal (recvCell true 0 c) 0)
      ∗ (semVal (sendCell false 1 c) 0 ∗ semVal (recvCell false 1 c) 0 ∗ semVal (sendCell true 1 c) 0 ∗ semVal (recvCell true 1 c) 0)
      ∗ (semVal (sendCell false 2 c) 0 ∗ semVal (recvCell false 2 c) 0 ∗ semVal (sendCell true 2 c) 0 ∗ semVal (recvCell true 2 c) 0)
      ∗ (semVal (sendCell false 3 c) 0 ∗ semVal (recvCell false 3 c) 0 ∗ semVal (sendCell true 3 c) 0 ∗ semVal (recvCell true 3 c) 0)
      ∗ (semVal (sendCell false 4 c) 0 ∗ semVal (recvCell false 4 c) 0 ∗ semVal (sendCell true 4 c) 0 ∗ semVal (recvCell true 4 c) 0)
      ∗ (semVal (sendCell false 5 c) 0 ∗ semVal (recvCell false 5 c) 0 ∗ semVal (sendCell true 5 c) 0 ∗ semVal (recvCell true 5 c) 0)
      ∗ semVal (endCell c) 0) ⊢ (zeros c : sProp 𝕄) := by
  unfold zeros
  rw [bigSep_eq_bigSepL_of_eq [0, 6, 12, 18, 1, 7, 13, 19, 2, 8, 14, 20, 3, 9, 15, 21, 4, 10, 16, 22, 5, 11, 17, 23, 24] (by decide) (by decide)]
  show _ ⊢ (iprop(semVal (cell 0 c) 0 ∗ semVal (cell 6 c) 0 ∗ semVal (cell 12 c) 0 ∗ semVal (cell 18 c) 0 ∗ semVal (cell 1 c) 0 ∗ semVal (cell 7 c) 0 ∗ semVal (cell 13 c) 0 ∗ semVal (cell 19 c) 0 ∗ semVal (cell 2 c) 0 ∗ semVal (cell 8 c) 0 ∗ semVal (cell 14 c) 0 ∗ semVal (cell 20 c) 0 ∗ semVal (cell 3 c) 0 ∗ semVal (cell 9 c) 0 ∗ semVal (cell 15 c) 0 ∗ semVal (cell 21 c) 0 ∗ semVal (cell 4 c) 0 ∗ semVal (cell 10 c) 0 ∗ semVal (cell 16 c) 0 ∗ semVal (cell 22 c) 0 ∗ semVal (cell 5 c) 0 ∗ semVal (cell 11 c) 0 ∗ semVal (cell 17 c) 0 ∗ semVal (cell 23 c) 0 ∗ semVal (cell 24 c) 0) : sProp 𝕄)
  iintro ⟨⟨A0, A1, A2, A3⟩, ⟨B0, B1, B2, B3⟩, ⟨C0, C1, C2, C3⟩, ⟨D0, D1, D2, D3⟩, ⟨E0, E1, E2, E3⟩, ⟨F0, F1, F2, F3⟩, G⟩
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2]; · iexact D2
  isplitl [D3]; · iexact D3
  isplitl [E0]; · iexact E0
  isplitl [E1]; · iexact E1
  isplitl [E2]; · iexact E2
  isplitl [E3]; · iexact E3
  isplitl [F0]; · iexact F0
  isplitl [F1]; · iexact F1
  isplitl [F2]; · iexact F2
  isplitl [F3]; · iexact F3
  iexact G

/-- Both rings and the last handshake, run at device `c` from its own row blocks `P c`. -/
theorem ring_run (κ : GSem nD τ sig → ℕ) (c : Dev nD) (M : Memref sig .tc .vmem S1x2048x1024 .f32) (Q : PUnit → sProp 𝕄) :
    iprop(recs P κ ∗ levAts L lv ∗ rowsAre c M (P c) ∗ outSlots false c ∗ outSlots true c ∗ bringsAll false c ∗ bringsAll true c ∗ byes c
      ∗ (∃ W, owes (c : Thread nD τ) (due c 6) W)
      ∗ (rowsAre c M (endRows P c) -∗ outSlots false c -∗ outSlots true c -∗ inSlots false c -∗ inSlots true c -∗ zeros c
          -∗ (∃ W, owes (c : Thread nD τ) 0 W) -∗ Q ⟨⟩))
      ⊢ runs c (ringP M (rowOffs c) (fun _ d => nb d c)) Q := by
  unfold outSlots bringsAll ringP
  iintro ⟨#HR, #Hlev, H, ⟨S0, S1, S2, SA⟩, ⟨T0, T1, T2, TA⟩, ⟨B0, B1, B2, B3, B4, B5⟩, ⟨C0, C1, C2, C3, C4, C5⟩, Hbye, HO, Hk⟩
  rw [runs_bind]
  iapply (first_run c M (P c))
  isplitl [H]; · iexact H
  isplitl [S0]; · iexact S0
  isplitl [T0]; · iexact T0
  iintro H S0 T0
  rw [runs_bind]
  iapply (exch_run P κ c 0)
  isplitr; · iexact HR
  isplitr; · iexact Hlev
  isplitl [B0]; · iexact B0
  isplitl [C0]; · iexact C0
  isplitl [S0]; · iexact S0
  isplitl [T0]; · iexact T0
  isplitl [HO]; · iexact HO
  unfold leaves
  iintro ⟨Z0, S0, T0, U0, V0⟩ HO
  rw [runs_bind]
  iapply (mid_run c M (P c) 0 1 1 (sent P false 0 (nb true c)) (sent P true 0 (nb false c)))
  isplitl [H]; · iexact H
  isplitl [U0]; · iexact U0
  isplitl [V0]; · iexact V0
  isplitl [S1]; · iexact S1
  isplitl [T1]; · iexact T1
  iintro H U0 V0 S1 T1
  rw [runs_bind]
  iapply (exch_run P κ c 1)
  isplitr; · iexact HR
  isplitr; · iexact Hlev
  isplitl [B1]; · iexact B1
  isplitl [C1]; · iexact C1
  isplitl [S1]; · iexact S1
  isplitl [T1]; · iexact T1
  isplitl [HO]; · iexact HO
  unfold leaves
  iintro ⟨Z1, S1, T1, U1, V1⟩ HO
  rw [runs_bind]
  iapply (mid_run c M (P c) 1 2 2 (sent P false 1 (nb true c)) (sent P true 1 (nb false c)))
  isplitl [H]; · iexact H
  isplitl [U1]; · iexact U1
  isplitl [V1]; · iexact V1
  isplitl [S2]; · iexact S2
  isplitl [T2]; · iexact T2
  iintro H U1 V1 S2 T2
  rw [runs_bind]
  iapply (exch_run P κ c 2)
  isplitr; · iexact HR
  isplitr; · iexact Hlev
  isplitl [B2]; · iexact B2
  isplitl [C2]; · iexact C2
  isplitl [S2]; · iexact S2
  isplitl [T2]; · iexact T2
  isplitl [HO]; · iexact HO
  unfold leaves
  iintro ⟨Z2, S2, T2, U2, V2⟩ HO
  rw [runs_bind]
  iapply (last_run c M (P c) (sent P false 2 (nb true c)) (sent P true 2 (nb false c)))
  isplitl [H]; · iexact H
  isplitl [U2]; · iexact U2
  isplitl [V2]; · iexact V2
  isplitl [SA]; · iexact SA
  isplitl [TA]; · iexact TA
  iintro H U2 V2 SA TA
  rw [runs_bind]
  iapply (exch_run P κ c 3)
  isplitr; · iexact HR
  isplitr; · iexact Hlev
  isplitl [B3]; · iexact B3
  isplitl [C3]; · iexact C3
  isplitl [SA]; · iexact SA
  isplitl [TA]; · iexact TA
  isplitl [HO]; · iexact HO
  unfold leaves
  iintro ⟨Z3, SA, TA, U3, V3⟩ HO
  rw [runs_bind]
  iapply (fold_run c M _ 0 0 (sent P false 3 (nb true c)) (sent P true 3 (nb false c)))
  isplitl [H]; · iexact H
  isplitl [U3]; · iexact U3
  isplitl [V3]; · iexact V3
  iintro H U3 V3
  rw [runs_bind]
  iapply (exch_run P κ c 4)
  isplitr; · iexact HR
  isplitr; · iexact Hlev
  isplitl [B4]; · iexact B4
  isplitl [C4]; · iexact C4
  isplitl [U3]; · iexact U3
  isplitl [V3]; · iexact V3
  isplitl [HO]; · iexact HO
  unfold leaves
  iintro ⟨Z4, U3, V3, U4, V4⟩ HO
  rw [runs_bind]
  iapply (fold_run c M _ 1 1 (sent P false 4 (nb true c)) (sent P true 4 (nb false c)))
  isplitl [H]; · iexact H
  isplitl [U4]; · iexact U4
  isplitl [V4]; · iexact V4
  iintro H U4 V4
  rw [runs_bind]
  iapply (exch_run P κ c 5)
  isplitr; · iexact HR
  isplitr; · iexact Hlev
  isplitl [B5]; · iexact B5
  isplitl [C5]; · iexact C5
  isplitl [U4]; · iexact U4
  isplitl [V4]; · iexact V4
  isplitl [HO]; · iexact HO
  unfold leaves
  iintro ⟨Z5, U4, V4, U5, V5⟩ HO
  rw [runs_bind]
  iapply (fold_run c M _ 2 2 (sent P false 5 (nb true c)) (sent P true 5 (nb false c)))
  isplitl [H]; · iexact H
  isplitl [U5]; · iexact U5
  isplitl [V5]; · iexact V5
  iintro H U5 V5
  rw [runs_bind]
  iapply (bye_run P κ c)
  isplitr; · iexact HR
  isplitr; · iexact Hlev
  isplitl [Hbye]; · iexact Hbye
  isplitl [HO]; · iexact HO
  iintro ZE HO
  iapply (done c Q)
  iapply Hk $$ [H] [S0 S1 S2 SA] [T0 T1 T2 TA] [U0 U1 U2 U3 U4 U5] [V0 V1 V2 V3 V4 V5] [Z0 Z1 Z2 Z3 Z4 Z5 ZE] [HO]
  · iexact H
  · isplitl [S0]; · iapply (room_of c (slot3 (rsS false) 0)); iexact S0
    isplitl [S1]; · iapply (room_of c (slot3 (rsS false) 1)); iexact S1
    isplitl [S2]; · iapply (room_of c (slot3 (rsS false) 2)); iexact S2
    iapply (room_of c (slot1 (agS false))); iexact SA
  · isplitl [T0]; · iapply (room_of c (slot3 (rsS true) 0)); iexact T0
    isplitl [T1]; · iapply (room_of c (slot3 (rsS true) 1)); iexact T1
    isplitl [T2]; · iapply (room_of c (slot3 (rsS true) 2)); iexact T2
    iapply (room_of c (slot1 (agS true))); iexact TA
  · unfold inSlots
    isplitl [U0]; · iapply (room_of c (dstM false 0)); iexact U0
    isplitl [U1]; · iapply (room_of c (dstM false 1)); iexact U1
    isplitl [U2]; · iapply (room_of c (dstM false 2)); iexact U2
    isplitl [U3]; · iapply (room_of c (dstM false 3)); iexact U3
    isplitl [U4]; · iapply (room_of c (dstM false 4)); iexact U4
    iapply (room_of c (dstM false 5)); iexact U5
  · unfold inSlots
    isplitl [V0]; · iapply (room_of c (dstM true 0)); iexact V0
    isplitl [V1]; · iapply (room_of c (dstM true 1)); iexact V1
    isplitl [V2]; · iapply (room_of c (dstM true 2)); iexact V2
    isplitl [V3]; · iapply (room_of c (dstM true 3)); iexact V3
    isplitl [V4]; · iapply (room_of c (dstM true 4)); iexact V4
    iapply (room_of c (dstM true 5)); iexact V5
  · iapply (zeros_intro c)
    isplitl [Z0]; · iexact Z0
    isplitl [Z1]; · iexact Z1
    isplitl [Z2]; · iexact Z2
    isplitl [Z3]; · iexact Z3
    isplitl [Z4]; · iexact Z4
    isplitl [Z5]; · iexact Z5
    iexact ZE
  iexact HO

end Ring

end Cert.KernelIdeal.Hand

end
-- ==== Proof.Body.lean ====
module

public import proofs.«01_k».proof.Proof.Tail
public import Idealize.ShloMosaic.Lib.Ring
public import Idealize.ShloMosaic.Lib.Exec.Geometry
public import Idealize.ShloMosaic.Lib.Pipeline.FrameBody

@[expose] public section

/-! # The body of the call, run whole at a symbolic device

The first part of the body computes the device's own row blocks of the product; between its first two signals and
the first wait both neighbours' landing slots change hands. `body_run` says what the output holds when the rings
are done: `endRows` over every device's own row blocks. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Buffers and their slots -/

section Slots

variable (c : Dev nD)

theorem slot3_set (M : Memref sig .tc .vmem S3x256x1024 .bf16) (k : Fin 3) : (slot3 M k).view.set = M.view.setOn (slotRect k).set :=
  (View.set_reshape _ _).trans (View.set_slice _ _)
theorem slot1_set (M : Memref sig .tc .vmem S1x256x1024 .bf16) (hM : M.IsWhole) : (slot1 M).view.set = Finset.univ := by
  refine ((View.set_reshape _ _).trans (View.set_slice _ _)).trans ?_
  rw [Rect.set_eq_univ_of_whole oneRect (by decide)]
  show M.view.set = _
  rw [ Memref.IsWhole.set_eq_univ hM]

/-- The elements of slot `k` in the buffer. -/
def slotSet (M : Memref sig .tc .vmem S3x256x1024 .bf16) (k : Fin 3) : Finset (Idx (M.view.loc (c : Thread nD τ))) := M.view.setOn (slotRect k).set

theorem slots_disjoint (M : Memref sig .tc .vmem S3x256x1024 .bf16) (k k' : Fin 3) (h : k ≠ k') :
    Disjoint (slotSet c M k) (slotSet c M k') := by
  refine View.disjoint_setOn M.view (Rect.disjoint_of_axis (slotRect k) (slotRect k') 0 ?_)
  revert k k'; decide
theorem slots_cover (M : Memref sig .tc .vmem S3x256x1024 .bf16) (hM : M.IsWhole) :
    Finset.univ.biUnion (slotSet c M) = Finset.univ := by
  refine Finset.eq_univ_of_forall fun x => Finset.mem_biUnion.mpr ?_
  have hx : x ∈ M.view.set := by rw [Memref.IsWhole.set_eq_univ hM]; exact Finset.mem_univ x
  obtain ⟨i, -, rfl⟩ := Finset.mem_map.mp hx
  have h0 : (i 0).val < 3 := (i 0).isLt
  have h1 : (i 1).val < 256 := (i 1).isLt
  have h2 : (i 2).val < 1024 := (i 2).isLt
  refine ⟨⟨(i 0).val, h0⟩, Finset.mem_univ _, (View.mem_setOn M.view).mpr (Rect.mem_set_unit.mpr fun a => ?_)⟩
  fin_cases a
  · exact ⟨le_refl _, Nat.lt_succ_self _⟩
  · exact ⟨Nat.zero_le _, by simpa using h1⟩
  · exact ⟨Nat.zero_le _, by simpa using h2⟩

theorem room_slot3 (M : Memref sig .tc .vmem S3x256x1024 .bf16) (k : Fin 3) :
    (room c (slot3 M k) : sProp 𝕄) = iprop(∃ f : Bf F c M, M.view.loc (c : Thread nD τ) ↦[slotSet c M k]{fullShare} f) := by
  unfold room slotSet
  rw [slot3_set]

theorem rooms_eq (M : Memref sig .tc .vmem S3x256x1024 .bf16) :
    (iprop(room c (slot3 M 0) ∗ room c (slot3 M 1) ∗ room c (slot3 M 2)) : sProp 𝕄)
      = bigSep Finset.univ fun k : Fin 3 => iprop(∃ f : Bf F c M, M.view.loc (c : Thread nD τ) ↦[slotSet c M k]{fullShare} f) := by
  rw [room_slot3, room_slot3, room_slot3, bigSep_eq_bigSepL_of_eq [0, 1, 2] (by decide) (by decide)]
  rfl

/-- A three-slot buffer is its three slots, -/
theorem slots_split (M : Memref sig .tc .vmem S3x256x1024 .bf16) (hM : M.IsWhole) :
    (iprop(∃ f : Bf F c M, pt c M f) : sProp 𝕄) ⊢ iprop(room c (slot3 M 0) ∗ room c (slot3 M 1) ∗ room c (slot3 M 2)) := by
  rw [rooms_eq]
  have h : ∀ f : Bf F c M, (pt c M f : sProp 𝕄) ⊢ bigSep Finset.univ fun k : Fin 3 =>
      iprop(∃ f : Bf F c M, M.view.loc (c : Thread nD τ) ↦[slotSet c M k]{fullShare} f) := fun f => by
    unfold pt
    rw [Ring.pointsTo_blocks (slotSet c M) (slots_disjoint c M) (slots_cover c M hM) f]
    refine bigSep_mono fun k _ => ?_
    show (_ : sProp 𝕄) ⊢ _
    iintro H; iexists f; iexact H
  iintro ⟨%f, H⟩
  iapply (h f); iexact H
/-- and the slots make up the buffer. -/
theorem slots_join (M : Memref sig .tc .vmem S3x256x1024 .bf16) (hM : M.IsWhole) :
    (iprop(room c (slot3 M 0) ∗ room c (slot3 M 1) ∗ room c (slot3 M 2)) : sProp 𝕄) ⊢ iprop(∃ f : Bf F c M, pt c M f) := by
  rw [rooms_eq]
  exact Ring.pointsTo_blocks_join_exists (slotSet c M) (slots_disjoint c M) (slots_cover c M hM) M.view.junk
theorem slot_whole (M : Memref sig .tc .vmem S1x256x1024 .bf16) (hM : M.IsWhole) :
    (iprop(∃ f : Bf F c M, pt c M f) : sProp 𝕄) = room c (slot1 M) := by
  unfold room
  rw [slot1_set M hM]

/-- A direction's four buffers, whole. -/
def bufs (d : Bool) : sProp 𝕄 :=
  iprop((∃ f : Bf F c (rsS d), pt c (rsS d) f) ∗ (∃ f : Bf F c (rsR d), pt c (rsR d) f)
    ∗ (∃ f : Bf F c (agS d), pt c (agS d) f) ∗ (∃ f : Bf F c (agR d), pt c (agR d) f))

theorem bufs_split (d : Bool) : (bufs c d : sProp 𝕄) ⊢ iprop(outSlots d c ∗ inSlots d c) := by
  unfold bufs outSlots inSlots
  rw [slot_whole c (agS d) (agS_whole d)]
  iintro ⟨A, B, C, D⟩
  ihave A := (slots_split c (rsS d) (rsS_whole d)) $$ A
  ihave B := (slots_split c (rsR d) (rsR_whole d)) $$ B
  ihave D := (slots_split c (agR d) (agR_whole d)) $$ D
  icases A with ⟨A0, A1, A2⟩
  icases B with ⟨B0, B1, B2⟩
  icases D with ⟨D0, D1, D2⟩
  isplitl [A0 A1 A2 C]
  · isplitl [A0]; · iexact A0
    isplitl [A1]; · iexact A1
    isplitl [A2]; · iexact A2
    iexact C
  isplitl [B0]; · iexact B0
  isplitl [B1]; · iexact B1
  isplitl [B2]; · iexact B2
  isplitl [D0]; · iexact D0
  isplitl [D1]; · iexact D1
  iexact D2
theorem bufs_join (d : Bool) : (iprop(outSlots d c ∗ inSlots d c) : sProp 𝕄) ⊢ bufs c d := by
  unfold bufs outSlots inSlots
  rw [slot_whole c (agS d) (agS_whole d)]
  iintro ⟨⟨A0, A1, A2, C⟩, ⟨B0, B1, B2, D0, D1, D2⟩⟩
  isplitl [A0 A1 A2]
  · iapply (slots_join c (rsS d) (rsS_whole d))
    isplitl [A0]; · iexact A0
    isplitl [A1]; · iexact A1
    iexact A2
  isplitl [B0 B1 B2]
  · iapply (slots_join c (rsR d) (rsR_whole d))
    isplitl [B0]; · iexact B0
    isplitl [B1]; · iexact B1
    iexact B2
  isplitl [C]; · iexact C
  iapply (slots_join c (agR d) (agR_whole d))
  isplitl [D0]; · iexact D0
  isplitl [D1]; · iexact D1
  iexact D2

theorem inSlots_eq (d : Bool) : (inSlots d c : sProp 𝕄) = bigSep Finset.univ fun k : Fin 6 => room c (dstM d k) := by
  rw [bigSep_eq_bigSepL_of_eq [0, 1, 2, 3, 4, 5] (by decide) (by decide)]; rfl

end Slots

/-! ## What the handshakes take and give -/

/-- What a device brings of its own to an exchange. -/
def own (d : Bool) (k : Fin 6) (c : Dev nD) : sProp 𝕄 :=
  iprop(atPos ER (sendCell d k c) 0 ∅ 0 ∗ atPos ER (recvCell d k c) 0 ∅ 0
    ∗ dutyTok ER (sendCell d k c) 0 false ∗ dutyTok ER (recvCell d k (nb d c)) 0 false
    ∗ cred (tallyAt (recvCell d k c) () N) ∗ reached ER (sendCell d k c) 0 ∗ reached ER (recvCell d k c) 0)

/-- A direction's own needs and the neighbour's payment are what the exchanges need. -/
theorem bringsAll_of (d : Bool) (c : Dev nD) :
    (iprop((bigSep Finset.univ fun k : Fin 6 => (own d k c : sProp 𝕄)) ∗ barPay d c) : sProp 𝕄)
      ⊢ iprop(bringsAll d c ∗ reached ER (endCell (nb d c)) 0) := by
  unfold barPay
  iintro ⟨A, B, C, D⟩
  isplitr [D]
  · have h : (iprop((bigSep Finset.univ fun k : Fin 6 => (own d k c : sProp 𝕄))
        ∗ (bigSep Finset.univ fun k : Fin 6 => (room (nb d c) (dstM d k) : sProp 𝕄))
        ∗ (bigSep Finset.univ fun k : Fin 6 => (reached ER (recvCell d k (nb d c)) 0 : sProp 𝕄))) : sProp 𝕄)
        ⊢ bringsAll d c := by
      rw [← bigSep_sep', ← bigSep_sep']
      refine (bigSep_mono (Ψ := fun k => brings d k c) fun k _ => ?_).trans ?_
      · unfold own brings
        show (_ : sProp 𝕄) ⊢ _
        iintro ⟨⟨H1, H2, H3, H4, H5, H6, -⟩, H7, H8⟩
        isplitl [H1]; · iexact H1
        isplitl [H2]; · iexact H2
        isplitl [H3]; · iexact H3
        isplitl [H4]; · iexact H4
        isplitl [H5]; · iexact H5
        isplitl [H6]; · iexact H6
        isplitl [H8]; · iexact H8
        iexact H7
      · rw [bigSep_eq_bigSepL_of_eq [0, 1, 2, 3, 4, 5] (by decide) (by decide)]; exact BI.Entails.refl _
    iapply h
    isplitl [A]; · iexact A
    isplitl [B]; · iexact B
    iexact C
  · iexact D

/-- What a device pays the neighbour it receives from. -/
theorem bar_pay (d : Bool) (c : Dev nD) :
    (iprop(inSlots d c ∗ (bigSep Finset.univ fun k : Fin 6 => (reached ER (recvCell d k c) 0 : sProp 𝕄)) ∗ reached ER (endCell c) 0) : sProp 𝕄)
      ⊢ barPay d (nb (!d) c) := by
  unfold barPay
  rw [nb_nb, inSlots_eq]

theorem own_reached (d : Bool) (c : Dev nD) : (bigSep Finset.univ fun k : Fin 6 => (own d k c : sProp 𝕄))
    ⊢ iprop((bigSep Finset.univ fun k : Fin 6 => (own d k c : sProp 𝕄))
      ∗ (bigSep Finset.univ fun k : Fin 6 => (reached ER (recvCell d k c) 0 : sProp 𝕄))) := by
  rw [← bigSep_sep']
  refine bigSep_mono fun k _ => ?_
  unfold own
  show (_ : sProp 𝕄) ⊢ _
  iintro ⟨H1, H2, H3, H4, H5, H6, #H7⟩
  isplitl [H1 H2 H3 H4 H5 H6]
  · isplitl [H1]; · iexact H1
    isplitl [H2]; · iexact H2
    isplitl [H3]; · iexact H3
    isplitl [H4]; · iexact H4
    isplitl [H5]; · iexact H5
    isplitl [H6]; · iexact H6
    iexact H7
  iexact H7

section Barrier

variable (P : Blocks F) (κ : GSem nD τ sig → ℕ) (c : Dev nD)

/-- Before the first signal, after it, after the second, and after the wait. -/
def bar0 : sProp 𝕄 :=
  iprop(recs P κ ∗ levAts L lv ∗ (∃ W, owes (c : Thread nD τ) (O₀ c) W)
    ∗ (dutyTok ER (barCell (prv c)) 0 false ∗ reached ER (barCell (prv c)) 0 ∗ barPay false (prv c))
    ∗ (dutyTok ER (barCell (nxt c)) 0 true ∗ reached ER (barCell (nxt c)) 0 ∗ barPay true (nxt c))
    ∗ cred (tallyAt (barCell c) () 2) ∗ atPos ER (barCell c) 0 ∅ 0)
def bar1 : sProp 𝕄 :=
  iprop(recs P κ ∗ levAts L lv ∗ (∃ W, owes (c : Thread nD τ) (due c 6 + tallyAt (barCell (nxt c)) () 1) W)
    ∗ (dutyTok ER (barCell (nxt c)) 0 true ∗ reached ER (barCell (nxt c)) 0 ∗ barPay true (nxt c))
    ∗ cred (tallyAt (barCell c) () 2) ∗ atPos ER (barCell c) 0 ∅ 0)
def bar2 : sProp 𝕄 :=
  iprop(recs P κ ∗ levAts L lv ∗ (∃ W, owes (c : Thread nD τ) (due c 6) W)
    ∗ cred (tallyAt (barCell c) () 2) ∗ atPos ER (barCell c) 0 ∅ 0)
def bar3 : sProp 𝕄 :=
  iprop((∃ W, owes (c : Thread nD τ) (due c 6) W) ∗ semVal (barCell c) 0 ∗ barPay false c ∗ barPay true c)

theorem dev1_eq : (⟨k0_dev1 c, k0_dev1_lt c⟩ : Dev nD) = prv c := by
  have : ∀ c : Dev nD, k0_dev1 c = (prv c).val := by decide +kernel
  exact Fin.ext (this c)
theorem dev2_eq : (⟨k0_dev2 c, k0_dev2_lt c⟩ : Dev nD) = nxt c := by
  have : ∀ c : Dev nD, k0_dev2 c = (nxt c).val := by decide +kernel
  exact Fin.ext (this c)
theorem bar_sem : (SemArray.scalar (sig.barrier 0 rfl) : Sems sig S_).sem = barS := rfl

theorem bar_step1 (Q : PUnit → sProp 𝕄) : iprop(bar0 P κ c ∗ (bar1 P κ c -∗ Q ⟨⟩)) ⊢ wp frame (wpE (defs₀ (F := F)) 𝒱₀ c none) Set.univ
    (semSignalWord (⟨k0_dev1 c, k0_dev1_lt c⟩ : Dev nD) (SemArray.scalar (sig.barrier 0 rfl) : Sems sig S_).sem 1#32) Q := by
  rw [dev1_eq, bar_sem]
  unfold bar0 bar1
  iintro ⟨⟨#HR, #Hlev, ⟨%W, HO⟩, ⟨Ht, Hr, Hp⟩, H2, Hc, Hat⟩, Hk⟩
  simp only [semSignalWord]
  iapply (Rounds.wp_signal 𝒱₀ ER (ringRd P) (c : Thread nD τ) none (dst := (prv c : Thread nD τ)) (sem := barS) (r := 0) (d := false) (κ := κ (barCell (prv c)))
      (by rw [duties_bar]; exact Finset.mem_univ _) ((amount_bar P (prv c) false).trans (by decide)) () (due c 6 + tallyAt (barCell (nxt c)) () 1) rfl (W := W)) $$ [HO Ht Hr Hp]
  · isplitr; · iapply (recs_bar P κ (prv c)); iexact HR
    isplitl [HO]; · iexact HO
    isplitl [Ht]; · iexact Ht
    isplitl [Hp]; · rw [payload_bar]; iexact Hp
    iexact Hr
  iintro HO
  rw [wp_ret]
  imodintro
  iapply Hk
  isplitr; · iexact HR
  isplitr; · iexact Hlev
  isplitl [HO]; · iexists W; iexact HO
  isplitl [H2]; · iexact H2
  isplitl [Hc]; · iexact Hc
  iexact Hat

theorem bar_step2 (Q : PUnit → sProp 𝕄) : iprop(bar1 P κ c ∗ (bar2 P κ c -∗ Q ⟨⟩)) ⊢ wp frame (wpE (defs₀ (F := F)) 𝒱₀ c none) Set.univ
    (semSignalWord (⟨k0_dev2 c, k0_dev2_lt c⟩ : Dev nD) (SemArray.scalar (sig.barrier 0 rfl) : Sems sig S_).sem 1#32) Q := by
  rw [dev2_eq, bar_sem]
  unfold bar1 bar2
  iintro ⟨⟨#HR, #Hlev, ⟨%W, HO⟩, ⟨Ht, Hr, Hp⟩, Hc, Hat⟩, Hk⟩
  simp only [semSignalWord]
  iapply (Rounds.wp_signal 𝒱₀ ER (ringRd P) (c : Thread nD τ) none (dst := (nxt c : Thread nD τ)) (sem := barS) (r := 0) (d := true) (κ := κ (barCell (nxt c)))
      (by rw [duties_bar]; exact Finset.mem_univ _) ((amount_bar P (nxt c) true).trans (by decide)) () (due c 6) rfl (W := W)) $$ [HO Ht Hr Hp]
  · isplitr; · iapply (recs_bar P κ (nxt c)); iexact HR
    isplitl [HO]; · iexact HO
    isplitl [Ht]; · iexact Ht
    isplitl [Hp]; · rw [payload_bar]; iexact Hp
    iexact Hr
  iintro HO
  rw [wp_ret]
  imodintro
  iapply Hk
  isplitr; · iexact HR
  isplitr; · iexact Hlev
  isplitl [HO]; · iexists W; iexact HO
  isplitl [Hc]; · iexact Hc
  iexact Hat

theorem bar_step3 (Q : PUnit → sProp 𝕄) : iprop(bar2 P κ c ∗ (bar3 c -∗ Q ⟨⟩)) ⊢ wp frame (wpE (defs₀ (F := F)) 𝒱₀ c none) Set.univ
    (semWaitWord (SemArray.scalar (sig.barrier 0 rfl) : Sems sig S_).sem 2#32) Q := by
  rw [bar_sem]
  unfold bar2 bar3
  iintro ⟨⟨#HR, #Hlev, ⟨%W, HO⟩, Hc, Hat⟩, Hk⟩
  simp only [semWaitWord]
  iapply (Rounds.wp_wait_rest_token 𝒱₀ ER (ringRd P) (c : Thread nD τ) none (κ := κ (barCell c))
      (wpE_semWait_eq 𝒱₀ (c : Thread nD τ) none Set.univ) (Set.mem_univ _) () (O := due c 6) (W := W) (R := 0) (m := 0) (T := ∅)
      ((by decide : 0 + (2#32).toInt.toNat = 2).trans (expect_bar P c).symm)) $$ [Hc HO Hat]
  · isplitr; · iapply (recs_bar P κ c); iexact HR
    isplitl [Hc]; · iexact Hc
    isplitl [HO]; · iexact HO
    isplitr; · iapply (mayWait_due c (.reg barS) 6 le_rfl (by decide)); iexact Hlev
    iexact Hat
  rw [rest_bar]
  iintro ⟨HO, Hat, -, Hp⟩
  rw [wp_ret]
  imod (close P (κ (barCell c)) (barCell c)) $$ [Hat] with H1
  · isplitr; · iapply (recs_bar P κ c); iexact HR
    iexact Hat
  imodintro
  iapply Hk
  isplitl [HO]; · iexists _; iexact HO
  isplitl [H1]; · iexact H1
  iexact Hp

end Barrier

/-! ## The own row blocks -/

section Own

variable (c : Dev nD)
  (M0 : Memref sig .tc .vmem S2048x1024 .bf16) (h0 : M0.IsWhole) (M1 : Memref sig .tc .vmem S1024x1024 .bf16) (h1 : M1.IsWhole)
  (M2 : Memref sig .tc .vmem S8x2048x128 .bf16) (h2 : M2.IsWhole) (M3 : Memref sig .tc .vmem S8x2048x128 .bf16) (h3 : M3.IsWhole)
  (M4 : Memref sig .tc .vmem S1024x1024 .bf16) (h4 : M4.IsWhole) (M5 : Memref sig .tc .vmem S1x2048x1024 .f32) (h5 : M5.IsWhole)
  (f0 : Bf F c M0) (f1 : Bf F c M1) (f2 : Bf F c M2) (f3 : Bf F c M3) (f4 : Bf F c M4)

/-- The first part's run over the buffers of the call. -/
abbrev ownRun := prefixRun (F := F) c M0 h0 M1 h1 M2 h2 M3 h3 M4 h4 M5 h5
  (Memref.whole cc0_scratch0) (Memref.isWhole_whole _) (Memref.whole cc0_scratch1) (Memref.isWhole_whole _)
  (Memref.whole cc0_scratch2) (Memref.isWhole_whole _) (Memref.whole cc0_scratch3) (Memref.isWhole_whole _)
  (Memref.whole cc0_scratch4) (Memref.isWhole_whole _) (Memref.whole cc0_scratch5) (Memref.isWhole_whole _)
  (Memref.whole cc0_scratch6) (Memref.isWhole_whole _) (Memref.whole cc0_scratch7) (Memref.isWhole_whole _)
  (Memref.whole cc0_scratch8) (Memref.isWhole_whole _) (Memref.whole cc0_scratch9) (Memref.isWhole_whole _)
  cc0_scratch10 cc0_scratch11 cc0_scratch12 cc0_scratch13 cc0_scoped0 f0 f1 f2 f3 f4

/-- The stores of the first part to the output, last first. -/
def ownPieces : List (View.Piece (Elt F) S1x2048x1024 .f32) := (ownRun c M0 h0 M1 h1 M2 h2 M3 h3 M4 h4 M5 h5 f0 f1 f2 f3 f4).1.2.2

/-- The row blocks these stores leave. -/
def ownRows : Rows F := fun d q => View.ld (View.canon (ownPieces c M0 h0 M1 h1 M2 h2 M3 h3 M4 h4 M5 h5 f0 f1 f2 f3 f4)) (rowRect d q)

/-- The eight row blocks of 256 rows the first part stores to. -/
def blkRects : List (Rect S1x2048x1024) :=
  [Rect.unit (s := S1x2048x1024) ![0, 1792, 0] S1x256x1024.size inb_S1x2048x1024_S1x256x1024_0_1792_0,
   Rect.unit (s := S1x2048x1024) ![0, 1536, 0] S1x256x1024.size inb_S1x2048x1024_S1x256x1024_0_1536_0,
   Rect.unit (s := S1x2048x1024) ![0, 1280, 0] S1x256x1024.size inb_S1x2048x1024_S1x256x1024_0_1280_0,
   Rect.unit (s := S1x2048x1024) ![0, 1024, 0] S1x256x1024.size inb_S1x2048x1024_S1x256x1024_0_1024_0,
   Rect.unit (s := S1x2048x1024) ![0, 768, 0] S1x256x1024.size inb_S1x2048x1024_S1x256x1024_0_768_0,
   Rect.unit (s := S1x2048x1024) ![0, 512, 0] S1x256x1024.size inb_S1x2048x1024_S1x256x1024_0_512_0,
   Rect.unit (s := S1x2048x1024) ![0, 256, 0] S1x256x1024.size inb_S1x2048x1024_S1x256x1024_0_256_0,
   Rect.unit (s := S1x2048x1024) ![0, 0, 0] S1x256x1024.size inb_S1x2048x1024_S1x256x1024_0_0_0]

theorem ownPieces_rects : (ownPieces c M0 h0 M1 h1 M2 h2 M3 h3 M4 h4 M5 h5 f0 f1 f2 f3 f4).map Sigma.fst = blkRects := rfl

theorem blkRects_cover : LoadRect.covChk blkRects (LoadRect.whole S1x2048x1024)
    (.split 1 256 (.leaf 7) (.split 1 256 (.leaf 6) (.split 1 256 (.leaf 5) (.split 1 256 (.leaf 4)
      (.split 1 256 (.leaf 3) (.split 1 256 (.leaf 2) (.split 1 256 (.leaf 1) (.leaf 0)))))))) = true := by decide +kernel

theorem ownPieces_cover (y : S1x2048x1024.Idx) : ∃ p ∈ ownPieces c M0 h0 M1 h1 M2 h2 M3 h3 M4 h4 M5 h5 f0 f1 f2 f3 f4, y ∈ p.1.set := by
  have h := LoadRect.cover_of_covChk (ownPieces c M0 h0 M1 h1 M2 h2 M3 h3 M4 h4 M5 h5 f0 f1 f2 f3 f4) (LoadRect.whole S1x2048x1024) _
    (by rw [ownPieces_rects]; exact blkRects_cover) y
  rwa [LoadRect.idx_whole] at h

/-- After the first part the output's row blocks are the own ones, whatever it held before. -/
theorem own_rows (f5 : Bf F c M5) :
    (pt c M5 (M5.view.writes (Elt F) f5 (ownPieces c M0 h0 M1 h1 M2 h2 M3 h3 M4 h4 M5 h5 f0 f1 f2 f3 f4)) : sProp 𝕄)
      ⊢ rowsAre c M5 (ownRows c M0 h0 M1 h1 M2 h2 M3 h3 M4 h4 M5 h5 f0 f1 f2 f3 f4) := by
  unfold rowsAre
  generalize hL : ownPieces c M0 h0 M1 h1 M2 h2 M3 h3 M4 h4 M5 h5 f0 f1 f2 f3 f4 = pcs
  have hc : ∀ y, ∃ p ∈ pcs, y ∈ p.1.set := hL ▸ ownPieces_cover c M0 h0 M1 h1 M2 h2 M3 h3 M4 h4 M5 h5 f0 f1 f2 f3 f4
  unfold ownRows
  rw [hL]
  clear hL
  iintro H
  iexists (M5.view.writes (Elt F) f5 pcs)
  isplitr
  · ipureintro
    intro d q
    exact congrArg (fun X => View.ld X (rowRect d q)) (View.read_writes_eq_canon M5.view f5 pcs hc)
  iexact H

end Own

/-! ## The body -/

/-- The scratch buffers of the call, whole. -/
def scratches (c : Dev nD) : sProp 𝕄 :=
  iprop((∃ f, pt c (Memref.whole cc0_scratch0) f) ∗ (∃ f, pt c (Memref.whole cc0_scratch1) f) ∗ bufs c false ∗ bufs c true)

/-- What a device starts the body with, beside its buffers and the debts: the cells' places, the turns to pay, and the credit. -/
def starts (c : Dev nD) : sProp 𝕄 :=
  iprop((dutyTok ER (barCell (prv c)) 0 false ∗ reached ER (barCell (prv c)) 0) ∗ (dutyTok ER (barCell (nxt c)) 0 true ∗ reached ER (barCell (nxt c)) 0)
    ∗ cred (tallyAt (barCell c) () 2) ∗ atPos ER (barCell c) 0 ∅ 0
    ∗ (bigSep Finset.univ fun k : Fin 6 => (own false k c : sProp 𝕄)) ∗ (bigSep Finset.univ fun k : Fin 6 => (own true k c : sProp 𝕄))
    ∗ (dutyTok ER (endCell (prv c)) 0 false ∗ dutyTok ER (endCell (nxt c)) 0 true ∗ cred (tallyAt (endCell c) () 2)
        ∗ atPos ER (endCell c) 0 ∅ 0 ∗ reached ER (endCell c) 0))

theorem body_run (P : Blocks F) (κ : GSem nD τ sig → ℕ) (c : Dev nD)
    (M0 : Memref sig .tc .vmem S2048x1024 .bf16) (h0 : M0.IsWhole) (M1 : Memref sig .tc .vmem S1024x1024 .bf16) (h1 : M1.IsWhole)
    (M2 : Memref sig .tc .vmem S8x2048x128 .bf16) (h2 : M2.IsWhole) (M3 : Memref sig .tc .vmem S8x2048x128 .bf16) (h3 : M3.IsWhole)
    (M4 : Memref sig .tc .vmem S1024x1024 .bf16) (h4 : M4.IsWhole) (M5 : Memref sig .tc .vmem S1x2048x1024 .f32) (h5 : M5.IsWhole)
    (f0 : Bf F c M0) (f1 : Bf F c M1) (f2 : Bf F c M2) (f3 : Bf F c M3) (f4 : Bf F c M4) (f5 : Bf F c M5)
    (hP : P c = ownRows c M0 h0 M1 h1 M2 h2 M3 h3 M4 h4 M5 h5 f0 f1 f2 f3 f4) (Q : PUnit → sProp 𝕄) :
    iprop(recs P κ ∗ levAts L lv ∗ starts c ∗ (∃ W, owes (c : Thread nD τ) (O₀ c) W)
      ∗ pt c M0 f0 ∗ pt c M1 f1 ∗ pt c M2 f2 ∗ pt c M3 f3 ∗ pt c M4 f4 ∗ pt c M5 f5 ∗ scratches c
      ∗ (pt c M0 f0 -∗ pt c M1 f1 -∗ pt c M2 f2 -∗ pt c M3 f3 -∗ pt c M4 f4 -∗ rowsAre c M5 (endRows P c) -∗ scratches c
          -∗ zeros c -∗ semVal (barCell c) 0 -∗ (∃ W, owes (c : Thread nD τ) 0 W) -∗ Q ⟨⟩))
      ⊢ wp frame (wpE (defs₀ (F := F)) 𝒱₀ c none) Set.univ
          (cc0_body M0 h0 M1 h1 M2 h2 M3 h3 M4 h4 M5 h5 (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            cc0_scratch10 cc0_scratch11 cc0_scratch12 cc0_scratch13 cc0_scoped0) Q := by
  unfold scratches starts
  iintro ⟨#HR, #Hlev, ⟨⟨Tp, Rp⟩, ⟨Tn, Rn⟩, Cb, Ab, Of, Ot, Ep, En, Ce, Ae, #Re⟩, HO, H0, H1, H2, H3, H4, H5, ⟨⟨%f6, H6⟩, ⟨%f7, H7⟩, Bf, Bt⟩, Hk⟩
  ihave Bf := (bufs_split c false) $$ Bf
  ihave Bt := (bufs_split c true) $$ Bt
  icases Bf with ⟨Sf, If⟩
  icases Bt with ⟨St, It⟩
  ihave Of := (own_reached false c) $$ Of
  ihave Ot := (own_reached true c) $$ Ot
  icases Of with ⟨Of, Vf⟩
  icases Ot with ⟨Ot, Vt⟩
  iapply ((ownRun c M0 h0 M1 h1 M2 h2 M3 h3 M4 h4 M5 h5 f0 f1 f2 f3 f4).2 (bar0 P κ c) (bar1 P κ c) (bar2 P κ c) (bar3 c) 𝒱₀
    (bar_step1 P κ c) (bar_step2 P κ c) (bar_step3 P κ c) f5 f6 f7 Q)
  isplitl [Tp Rp Tn Rn Cb Ab HO If It Vf Vt]
  · unfold bar0
    isplitr; · iexact HR
    isplitr; · iexact Hlev
    isplitl [HO]; · iexact HO
    isplitl [Tp Rp If Vf]
    · isplitl [Tp]; · iexact Tp
      isplitl [Rp]; · iexact Rp
      iapply (bar_pay false c)
      isplitl [If]; · iexact If
      isplitl [Vf]; · iexact Vf
      iexact Re
    isplitl [Tn Rn It Vt]
    · isplitl [Tn]; · iexact Tn
      isplitl [Rn]; · iexact Rn
      iapply (bar_pay true c)
      isplitl [It]; · iexact It
      isplitl [Vt]; · iexact Vt
      iexact Re
    isplitl [Cb]; · iexact Cb
    iexact Ab
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold bar3
  iintro ⟨⟨HO, Zb, Pf, Pt⟩, H0, H1, H2, H3, H4, H6, H7, H5⟩ %v
  rw [tail_eq, bodyOffs_eq, bodyDev_eq]
  iapply (ring_run P κ c M5 Q)
  isplitr; · iexact HR
  isplitr; · iexact Hlev
  isplitl [H5]
  · rw [hP]
    iapply (own_rows c M0 h0 M1 h1 M2 h2 M3 h3 M4 h4 M5 h5 f0 f1 f2 f3 f4 f5); iexact H5
  isplitl [Sf]; · iexact Sf
  isplitl [St]; · iexact St
  ihave Of := (bringsAll_of false c) $$ [Of Pf]
  · isplitl [Of]; · iexact Of
    iexact Pf
  ihave Ot := (bringsAll_of true c) $$ [Ot Pt]
  · isplitl [Ot]; · iexact Ot
    iexact Pt
  icases Of with ⟨Of, Ef⟩
  icases Ot with ⟨Ot, Et⟩
  isplitl [Of]; · iexact Of
  isplitl [Ot]; · iexact Ot
  isplitl [Ep En Ce Ae Ef Et]
  · unfold byes
    isplitl [Ep]; · iexact Ep
    isplitl [En]; · iexact En
    isplitl [Et]; · iexact Et
    isplitl [Ef]; · iexact Ef
    isplitl [Ce]; · iexact Ce
    iexact Ae
  isplitl [HO]; · iexact HO
  iintro H5 Sf St If It Z HO
  ihave Bf := (bufs_join c false) $$ [Sf If]
  · isplitl [Sf]; · iexact Sf
    iexact If
  ihave Bt := (bufs_join c true) $$ [St It]
  · isplitl [St]; · iexact St
    iexact It
  iapply Hk $$ H0 H1 H2 H3 H4 H5 [H6 H7 Bf Bt] Z Zb HO
  isplitl [H6]; · iexists _; iexact H6
  isplitl [H7]; · iexists _; iexact H7
  isplitl [Bf]; · iexact Bf
  iexact Bt

end Cert.KernelIdeal.Hand

end
-- ==== Proof.Region.lean ====
module

public import proofs.«01_k».proof.Proof.Body
public import proofs.«01_k».proof.Proof.Gen.KernelIdeal.Points
public import proofs.«01_k».proof.Proof.Gen.KernelIdeal.Launch
public import proofs.«01_k».proof.Proof.Gen.KernelIdeal.Regions

@[expose] public section

/-! # The call as a region of the program: its data and its body

The five inputs are staged as the program's own operations left them; the output's staging buffer ends as the row
blocks `endRows` put together (`assemble`). -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## Row blocks put together -/

/-- Which direction's ring moves row `i 1`, and which of the four row quarters it lies in. -/
def half (i : S1x2048x1024.Idx) : Bool := decide (256 ≤ (i 1).val % 512)
def quarter (i : S1x2048x1024.Idx) : Dev nD := ⟨(i 1).val / 512, by have h : (i 1).val < 2048 := (i 1).isLt; show _ < 4; omega⟩

theorem local_lt (i : S1x2048x1024.Idx) (a : Fin 3) : (i a).val - rowOff (half i) (quarter i) a < S1x256x1024.size a
    ∧ rowOff (half i) (quarter i) a ≤ (i a).val := by
  have h0 : (i 0).val < 1 := (i 0).isLt
  have h1 : (i 1).val < 2048 := (i 1).isLt
  have h2 : (i 2).val < 1024 := (i 2).isLt
  fin_cases a
  · exact ⟨by show (i 0).val - 0 < 1; omega, Nat.zero_le _⟩
  · have e : rowOff (half i) (quarter i) 1 = 512 * ((i 1).val / 512) + 256 * (half i).toNat := rfl
    show (i 1).val - rowOff (half i) (quarter i) 1 < 256 ∧ rowOff (half i) (quarter i) 1 ≤ (i 1).val
    rw [e]
    unfold half
    by_cases h : 256 ≤ (i 1).val % 512
    · rw [decide_eq_true h]; simp only [Bool.toNat_true]; omega
    · rw [decide_eq_false h]; simp only [Bool.toNat_false]; omega
  · exact ⟨by show (i 2).val - 0 < 1024; omega, Nat.zero_le _⟩

/-- The place of `i` within its row block. -/
def inRow (i : S1x2048x1024.Idx) : S1x256x1024.Idx := fun a => ⟨(i a).val - rowOff (half i) (quarter i) a, (local_lt i a).1⟩

theorem emb_inRow (i : S1x2048x1024.Idx) : (rowRect (half i) (quarter i)).emb (inRow i) = i := by
  funext a
  apply Fin.ext
  show rowOff (half i) (quarter i) a + 1 * ((i a).val - rowOff (half i) (quarter i) a) = (i a).val
  have := (local_lt i a).2
  omega

/-- The whole output from its row blocks. -/
def assemble (R : Rows F) : FVec F S1x2048x1024 .f32 := fun i => R (half i) (quarter i) (inRow i)

/-- A whole buffer with its row blocks at `R` is owned at `assemble R`. -/
theorem rows_owns (c : Dev nD) (R : Rows F) :
    (rowsAre c (Memref.whole cc0_stg5_0) R : sProp 𝕄)
      ⊢ iprop(∃ f : Bf F c (Memref.whole cc0_stg5_0), ⌜f = assemble R⌝ ∗ (((c : Thread nD τ).loc cc0_stg5_0) ↦{fullShare} f)) := by
  unfold rowsAre
  iintro ⟨%f, %h, H⟩
  iexists f
  isplitr
  · ipureintro
    funext i
    have := congrFun (h (half i) (quarter i)) (inRow i)
    exact (congrArg f (emb_inRow i)).symm.trans this
  iexact H

/-! ## The data of the call -/

variable (m : (ℓ : Loc nD τ sig) → Buf (Elt F) ℓ)

/-- What each window's array holds when the call starts. -/
abbrev A0 (c : Dev nD) (w : Fin cfg0.W) : Buf (Elt F) ((cfg0.win w).arr.view.loc (c : Thread nD τ)) :=
  V1 m c (Proc.devRef .tc (Pipeline.arrRef spec0 w))

abbrev stg0 (c : Dev nD) : FVec F S2048x1024 .bf16 := ((cfg0.win 0).blk t0_0).view.read (Elt F) (A0 m c 0)
abbrev stg1 (c : Dev nD) : FVec F S1024x1024 .bf16 := ((cfg0.win 1).blk t0_0).view.read (Elt F) (A0 m c 1)
abbrev stg2 (c : Dev nD) : FVec F S8x2048x128 .bf16 := ((cfg0.win 2).blk t0_0).view.read (Elt F) (A0 m c 2)
abbrev stg3 (c : Dev nD) : FVec F S8x2048x128 .bf16 := ((cfg0.win 3).blk t0_0).view.read (Elt F) (A0 m c 3)
abbrev stg4 (c : Dev nD) : FVec F S1024x1024 .bf16 := ((cfg0.win 4).blk t0_0).view.read (Elt F) (A0 m c 4)

/-- Every device's own row blocks, from what the program staged for it. -/
def blocks : Blocks F := fun c =>
  ownRows c (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (stg0 m c) (stg1 m c) (stg2 m c) (stg3 m c) (stg4 m c)

/-- What the call's output holds at the end on device `c`. -/
def outAt (c : Dev nD) : FVec F S1x2048x1024 .f32 := assemble (endRows (blocks m) c)

/-- What the body starts with, and what it leaves, beside its staging buffers and the debts. -/
def startAt (c : Dev nD) : sProp 𝕄 := iprop(∃ κ, recs (blocks m) κ ∗ levAts L lv ∗ starts c)

def dat0 (c : Dev nD) : Dat τ (Elt F) Unit ℕ UU ℕ cfg0 c where
  A w := A0 m c w
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outAt m c
  Φ t := if t.val = 0 then iprop(startAt m c ∗ scratches c ∗ ∃ r, prngReg c r)
    else iprop(semVal (barCell c) 0 ∗ zeros c ∗ scratches c ∗ ∃ r, prngReg c r)
  q _ := fullShare
  owed t := if t.val = 0 then O₀ c else 0

theorem before_0 (c : Dev nD) (d) : (dat0 m c).before 0 t0_0 d = stg0 m c := by
  unfold Pipeline.Dat.before; rw [if_pos (by decide)]; rfl
theorem before_1 (c : Dev nD) (d) : (dat0 m c).before 1 t0_0 d = stg1 m c := by
  unfold Pipeline.Dat.before; rw [if_pos (by decide)]; rfl
theorem before_2 (c : Dev nD) (d) : (dat0 m c).before 2 t0_0 d = stg2 m c := by
  unfold Pipeline.Dat.before; rw [if_pos (by decide)]; rfl
theorem before_3 (c : Dev nD) (d) : (dat0 m c).before 3 t0_0 d = stg3 m c := by
  unfold Pipeline.Dat.before; rw [if_pos (by decide)]; rfl
theorem before_4 (c : Dev nD) (d) : (dat0 m c).before 4 t0_0 d = stg4 m c := by
  unfold Pipeline.Dat.before; rw [if_pos (by decide)]; rfl

omit [FloatOps F] [Named F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_first (c : Dev nD) : (dat0 m c).owed t0_0.castSucc = O₀ c := by
  show (if (t0_0.castSucc : Fin (cfg0.N + 1)).val = 0 then O₀ c else 0) = O₀ c; exact if_pos rfl
theorem owed_after (c : Dev nD) : (dat0 m c).owed t0_0.succ = 0 := by
  show (if (t0_0.succ : Fin (cfg0.N + 1)).val = 0 then O₀ c else 0) = 0
  exact if_neg (by rw [Fin.val_succ]; exact Nat.succ_ne_zero _)

/-- The debts of a point of the call, either way. -/
theorem owesAt_of {c : Dev nD} (dat : Dat τ (Elt F) Unit ℕ UU ℕ cfg0 c) (t : Fin (cfg0.N + 1))
    (O : CellTallies nD τ sig Unit) (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr
  · ipureintro; exact fun _ _ => Or.inl trivial
  iexact HO
theorem owes_of {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

set_option maxRecDepth 4000 in
/-- The body of the call meets the data. -/
theorem body_obligation (c : Dev nD) : BodyObligation (dat0 m c) (defs₀ (F := F)) 𝒱₀ () Set.univ := fun t => by
  obtain rfl := fin_N0 t
  rw [bigSep_W0, bigSep_W0]
  simp only [owns_buf]
  rw [show (dat0 m c).Φ t0_0.castSucc = iprop(startAt m c ∗ scratches c ∗ ∃ r, prngReg c r) from rfl,
    show (dat0 m c).Φ t0_0.succ = iprop(semVal (barCell c) 0 ∗ zeros c ∗ scratches c ∗ ∃ r, prngReg c r) from rfl]
  unfold startAt
  iintro ⟨⟨⟨%κ, HR, HL, HS⟩, HB, HP⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  ihave HO := (owes_of (dat0 m c) _ (O₀ c) (owed_first m c)) $$ HO
  rw [before_0] at hf0; rw [before_1] at hf1; rw [before_2] at hf2; rw [before_3] at hf3; rw [before_4] at hf4
  subst hf0 hf1 hf2 hf3 hf4
  iapply (body_run (blocks m) κ c (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (stg0 m c) (stg1 m c) (stg2 m c) (stg3 m c) (stg4 m c) f5 rfl _)
  isplitl [HR]; · iexact HR
  isplitl [HL]; · iexact HL
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [HB]; · iexact HB
  iintro H0 H1 H2 H3 H4 H5 HB HZ Hb HO
  isplitl [Hb HZ HB HP]
  · isplitl [Hb]; · iexact Hb
    isplitl [HZ]; · iexact HZ
    isplitl [HB]; · iexact HB
    iexact HP
  isplitl [HO]; · iapply (owesAt_of (dat0 m c) t0_0.succ 0 (owed_after m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  ihave H5 := (rows_owns c _) $$ H5
  icases H5 with ⟨%f, %hf, H5⟩
  iexists f; isplitr; swap; (· iexact H5)
  ipureintro; exact hf

end Cert.KernelIdeal.Hand

end
-- ==== Proof.Talk.lean ====
module

public import proofs.«01_k».proof.Proof.Region

@[expose] public section

/-! # The call as a region: what it is entered with and what it leaves

On entry a device opens its own twenty-five cells (`open_cells`); what it then has is what the body starts from. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

/-! ## A device's cells, by kind -/

def sEmb (d : Bool) : Fin 6 ↪ Fin 25 := ⟨sIx d, by revert d; decide⟩
def rEmb (d : Bool) : Fin 6 ↪ Fin 25 := ⟨rIx d, by revert d; decide⟩

/-- The twenty-five cells are the send and receive cells of both directions and the last handshake's. -/
theorem by_kind (Φ : Fin 25 → sProp 𝕄) : bigSep Finset.univ Φ
    = iprop(Φ eIx ∗ (bigSep Finset.univ fun k : Fin 6 => Φ (sIx false k)) ∗ (bigSep Finset.univ fun k : Fin 6 => Φ (rIx false k))
        ∗ (bigSep Finset.univ fun k : Fin 6 => Φ (sIx true k)) ∗ (bigSep Finset.univ fun k : Fin 6 => Φ (rIx true k))) := by
  rw [show (Finset.univ : Finset (Fin 25)) = insert eIx (Finset.univ.map (sEmb false) ∪ (Finset.univ.map (rEmb false)
      ∪ (Finset.univ.map (sEmb true) ∪ Finset.univ.map (rEmb true)))) from by decide,
    bigSep_insert (by decide), bigSep_union (by decide), bigSep_union (by decide), bigSep_union (by decide),
    bigSep_map, bigSep_map, bigSep_map, bigSep_map]
  rfl

theorem open_cells (P : Blocks F) (κ : GSem nD τ sig → ℕ) (c : Dev nD) :
    iprop(recs P κ ∗ (bigSep Finset.univ fun i : Fin 25 => (openTok ER (cell i c) : sProp 𝕄)) ∗ zeros c)
      ⊢ (|={Set.univ}=> bigSep Finset.univ fun i : Fin 25 => iprop(atPos ER (cell i c) 0 ∅ 0 ∗ reached ER (cell i c) 0) : sProp 𝕄) := by
  unfold zeros
  rw [← bigSep_sep']
  have h := bigSep_with_persistent (S := (Finset.univ : Finset (Fin 25))) (R := recs P κ)
    (Φ := fun i => (iprop(openTok ER (cell i c) ∗ semVal (cell i c) 0) : sProp 𝕄))
    (Ψ := fun i => (iprop(|={Set.univ}=> (atPos ER (cell i c) 0 ∅ 0 ∗ reached ER (cell i c) 0)) : sProp 𝕄)) fun i _ => by
      iintro ⟨#HR, Ho, Hs⟩
      ihave #HI := (recs_cell P κ i c) $$ HR
      iapply (Rounds.cell_open ER (ringRd P) (g := cell i c) (Set.mem_univ (κ (cell i c))))
      isplitr; · iexact HI
      isplitl [Ho] <;> iassumption
  exact h.trans (bigSep_fupd _ _)

/-- What a device holds for an exchange before its cells are open: the turns it pays and its credit. -/
def mine (d : Bool) (k : Fin 6) (c : Dev nD) : sProp 𝕄 :=
  iprop(dutyTok ER (sendCell d k c) 0 false ∗ dutyTok ER (recvCell d k (nb d c)) 0 false ∗ cred (tallyAt (recvCell d k c) () N))

theorem owns_of (d : Bool) (c : Dev nD) :
    iprop((bigSep Finset.univ fun k : Fin 6 => (iprop(atPos ER (cell (sIx d k) c) 0 ∅ 0 ∗ reached ER (cell (sIx d k) c) 0) : sProp 𝕄))
      ∗ (bigSep Finset.univ fun k : Fin 6 => (iprop(atPos ER (cell (rIx d k) c) 0 ∅ 0 ∗ reached ER (cell (rIx d k) c) 0) : sProp 𝕄))
      ∗ (bigSep Finset.univ fun k : Fin 6 => (mine d k c : sProp 𝕄)))
      ⊢ bigSep Finset.univ fun k : Fin 6 => (own d k c : sProp 𝕄) := by
  rw [← bigSep_sep', ← bigSep_sep']
  refine bigSep_mono fun k _ => ?_
  rw [cell_send, cell_recv]
  unfold mine own
  show (_ : sProp 𝕄) ⊢ _
  iintro ⟨⟨H1, H6⟩, ⟨H2, H7⟩, H3, H4, H5⟩
  isplitl [H1]; · iexact H1
  isplitl [H2]; · iexact H2
  isplitl [H3]; · iexact H3
  isplitl [H4]; · iexact H4
  isplitl [H5]; · iexact H5
  isplitl [H6]; · iexact H6
  iexact H7

/-! ## Entry -/

variable (m : (ℓ : Loc nD τ sig) → Buf (Elt F) ℓ)

/-- What the launch deals a device, its cells not yet open. -/
def dealt (c : Dev nD) : sProp 𝕄 :=
  iprop((dutyTok ER (barCell (prv c)) 0 false ∗ reached ER (barCell (prv c)) 0) ∗ (dutyTok ER (barCell (nxt c)) 0 true ∗ reached ER (barCell (nxt c)) 0)
    ∗ cred (tallyAt (barCell c) () 2) ∗ atPos ER (barCell c) 0 ∅ 0
    ∗ (bigSep Finset.univ fun k : Fin 6 => (mine false k c : sProp 𝕄)) ∗ (bigSep Finset.univ fun k : Fin 6 => (mine true k c : sProp 𝕄))
    ∗ dutyTok ER (endCell (prv c)) 0 false ∗ dutyTok ER (endCell (nxt c)) 0 true ∗ cred (tallyAt (endCell c) () 2))
def Tk (c : Dev nD) : sProp 𝕄 :=
  iprop((∃ κ, recs (blocks m) κ ∗ bigSep Finset.univ fun i : Fin 25 => (openTok ER (cell i c) : sProp 𝕄)) ∗ dealt c)
def Yk (c : Dev nD) : sProp 𝕄 := semVal (barCell c) 0

theorem zeros_eq (c : Dev nD) : (Pipeline.ownSems0 osem c : sProp 𝕄) = zeros c := rfl

theorem hopen (c : Dev nD) : iprop(Tk m c ∗ Pipeline.ownSems0 osem c ∗ levAts L lv) ⊢ (|={Set.univ}=> startAt m c : sProp 𝕄) := by
  rw [zeros_eq]
  unfold Tk startAt dealt starts
  iintro ⟨⟨⟨%κ, #HR, Ho⟩, Tp, Tn, Cb, Ab, Mf, Mt, Ep, En, Ce⟩, HZ, HL⟩
  imod (open_cells (blocks m) κ c) $$ [Ho HZ] with H
  · isplitr; · iexact HR
    isplitl [Ho] <;> iassumption
  ihave H := (Entails.of_eq (by_kind (F := F) fun i => iprop(atPos ER (cell i c) 0 ∅ 0 ∗ reached ER (cell i c) 0))) $$ H
  icases H with ⟨⟨Ae, Re⟩, Sf, Rf, St, Rt⟩
  imodintro
  iexists κ
  isplitr; · iexact HR
  isplitl [HL]; · iexact HL
  isplitl [Tp]; · iexact Tp
  isplitl [Tn]; · iexact Tn
  isplitl [Cb]; · iexact Cb
  isplitl [Ab]; · iexact Ab
  isplitl [Sf Rf Mf]
  · iapply (owns_of false c)
    isplitl [Sf]; · iexact Sf
    isplitl [Rf]; · iexact Rf
    iexact Mf
  isplitl [St Rt Mt]
  · iapply (owns_of true c)
    isplitl [St]; · iexact St
    isplitl [Rt]; · iexact Rt
    iexact Mt
  isplitl [Ep]; · iexact Ep
  isplitl [En]; · iexact En
  isplitl [Ce]; · iexact Ce
  isplitl [Ae]; · iexact Ae
  iexact Re

/-- The scratch buffers, in the order the program lists them and by kind. -/
theorem scratch_iff (c : Dev nD) :
    ((Pipeline.scopedRest (Ix := Unit) (Name := ℕ) (U := UU) (Lvl := ℕ) (Val := Elt F) spec0 c : sProp 𝕄) ⊢ scratches c)
      ∧ ((scratches c : sProp 𝕄) ⊢ Pipeline.scopedRest (Ix := Unit) (Name := ℕ) (U := UU) (Lvl := ℕ) (Val := Elt F) spec0 c) := by
  rw [scopedRest0_eq]
  unfold scratches bufs
  constructor
  · iintro ⟨H0, H1, H2, H3, H4, H5, H6, H7, H8, H9⟩
    isplitl [H0]; · iexact H0
    isplitl [H1]; · iexact H1
    isplitl [H2 H3 H4 H5]
    · isplitl [H2]; · iexact H2
      isplitl [H3]; · iexact H3
      isplitl [H4]; · iexact H4
      iexact H5
    isplitl [H6]; · iexact H6
    isplitl [H7]; · iexact H7
    isplitl [H8]; · iexact H8
    iexact H9
  · iintro ⟨H0, H1, ⟨H2, H3, H4, H5⟩, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The region -/

def pdats : (p : Fin 1) → (c : Dev nD) → Dat τ (Elt F) Unit ℕ UU ℕ (Pipeline.pin (pcfgs (F := F)) adm p) c
  | 0 => dat0 m

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V1 m c) ∗ startAt m c) ⊢ (pdats m 0 c).Φ 0 := by
  rw [show (pdats m 0 c).Φ 0 = iprop(startAt m c ∗ scratches c ∗ ∃ r, prngReg c r) from rfl]
  iintro ⟨Hs, Hp, -, Hx⟩
  isplitl [Hx]; · iexact Hx
  isplitl [Hs]; · iapply (scratch_iff c).1; iexact Hs
  iexact Hp

theorem hout (W : Valuation τ sig (Elt F)) (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ W ∗ Pipeline.ownSems0 osem c ∗ Yk c) := by
  rw [show (pdats m 0 c).Φ (Fin.last _) = iprop(semVal (barCell c) 0 ∗ zeros c ∗ scratches c ∗ ∃ r, prngReg c r) from rfl, held_none, zeros_eq]
  unfold Yk
  iintro ⟨Hb, HZ, Hs, Hp⟩
  isplitl [Hs]; · iapply (scratch_iff c).2; iexact Hs
  isplitl [Hp]; · iexact Hp
  isplitr; · iempintro
  isplitl [HZ]; · iexact HZ
  iexact Hb

/-- The output's array after the call, and the program's buffers then. -/
abbrev outA (c : Dev nD) : Buf (Elt F) ((c : Thread nD τ).loc main_v20) := (dat0 m c).arrAt 5 cfg0.N
def V2' (c : Dev nD) : Valuation τ sig (Elt F) := Function.update (V1 m c) (Proc.devRef .tc main_v20) (outA m c)

theorem V2'_out (c : Dev nD) : V2' m c (Proc.devRef .tc main_v20) = outA m c := Function.update_self ..
theorem V2'_of (c : Dev nD) {b : DevRef τ sig} (h : b ≠ Proc.devRef .tc main_v20) : V2' m c b = V1 m c b := Function.update_of_ne h ..

theorem arr_out (c : Dev nD) (w : Fin cfg0.W) : (dat0 m c).arrAt w cfg0.N = V2' m c (Proc.devRef .tc (Pipeline.arrRef spec0 w)) := by
  fin_cases w
  · exact ((dat0 m c).arrAt_in 0 rfl cfg0.N).trans (V2'_of m c (b := Proc.devRef .tc (Pipeline.arrRef spec0 0)) (by decide)).symm
  · exact ((dat0 m c).arrAt_in 1 rfl cfg0.N).trans (V2'_of m c (b := Proc.devRef .tc (Pipeline.arrRef spec0 1)) (by decide)).symm
  · exact ((dat0 m c).arrAt_in 2 rfl cfg0.N).trans (V2'_of m c (b := Proc.devRef .tc (Pipeline.arrRef spec0 2)) (by decide)).symm
  · exact ((dat0 m c).arrAt_in 3 rfl cfg0.N).trans (V2'_of m c (b := Proc.devRef .tc (Pipeline.arrRef spec0 3)) (by decide)).symm
  · exact ((dat0 m c).arrAt_in 4 rfl cfg0.N).trans (V2'_of m c (b := Proc.devRef .tc (Pipeline.arrRef spec0 4)) (by decide)).symm
  · exact (V2'_out m c).symm

/-- The program's unscoped buffers that are no window's array. -/
abbrev others : Finset (DevRef τ sig) := Pipeline.ucRefs τ sig \ Pipeline.arrRefs (τ := τ) (pcfgs (F := F) 0).spec

theorem out_mem : Proc.devRef .tc main_v20 ∈ Pipeline.arrRefs (τ := τ) (pcfgs (F := F) 0).spec := by
  show Proc.devRef .tc main_v20 ∈ Pipeline.arrRefs (τ := τ) spec0
  decide

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · exact O₀_pos c h
  · exact absurd h (Nat.lt_irrefl 0)

theorem own_sems : Pipeline.OwnSemFacts spec0 osem := by decide +kernel

theorem stage_lv : ∀ (w : Fin 6) (s : Fin (spec0 w).nbuf), semLv (.dma ((spec0 w).sem s)) ≤ 0 := by decide +kernel

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ (others (F := F)) (Finset.empty_subset _) kit rfl (fun c => (body_obligation m c).loose)
    (fun _ => 0) O₀ (fun c => (owed_first m c).trans (zero_add _).symm) (fun c => owed_after m c) (fun _ => rfl)
    (fun c w => (dat0 m c).share_full (fun _ => rfl) w)
    (V1 m) (V2' m) (fun c b hb => V2'_of m c fun e => (Finset.mem_sdiff.mp (Finset.mem_sdiff.mp hb).1).2 (e ▸ out_mem (F := F)))
    (Tk m) Yk (startAt m) Yk (hopen m) (hin m) (fun c => hout m (V2' m c) c)
    (fun c => by iintro H; imodintro; iexact H)
    (fun _ => 0)
    ⟨fun c w s => by rw [L_tc]; exact Finset.mem_singleton_self _, fun c w s => stage_lv w s, fun c t g i h => cut m c t g i h⟩
    (fun _ => iprop(emp))
    (fun c w => rfl) (fun c w => arr_out m c w)

/-- The program's buffers and what was dealt are what the region is entered with. -/
theorem reg0_pre (c : Dev nD) : iprop(StableHlo.held (c : Thread nD τ) (Pipeline.ucRefs τ sig) (V1 m c) ∗ ((∃ r, prngReg c r) ∗ Tk m c ∗ ∃ W, owes (c : Thread nD τ) (O₀ c) W))
    ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) (show Pipeline.arrRefs (τ := τ) (pcfgs (F := F) 0).spec ⊆ Pipeline.ucRefs τ sig from by
    show Pipeline.arrRefs (τ := τ) spec0 ⊆ Pipeline.ucRefs τ sig; decide) (V1 m c)]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop(StableHlo.held (c : Thread nD τ) (Pipeline.ucRefs τ sig) (V2' m c) ∗ (semVal (barCell c) 0 ∗ ∃ W, owes (c : Thread nD τ) (0 : CellTallies nD τ sig Unit) W)) := by
  show iprop(StableHlo.held (c.tc : Thread nD τ) (Pipeline.arrRefs (τ := τ) (pcfgs (F := F) 0).spec) (V2' m c) ∗ (∃ r, prngReg c r)
    ∗ (StableHlo.held (c.tc : Thread nD τ) others (V2' m c) ∗ emp) ∗ Yk c ∗ ∃ Wd, owes (c : Thread nD τ) (0 : CellTallies nD τ sig Unit) Wd) ⊢ _
  rw [StableHlo.held_sub_split (c.tc : Thread nD τ) (show Pipeline.arrRefs (τ := τ) (pcfgs (F := F) 0).spec ⊆ Pipeline.ucRefs τ sig from by
    show Pipeline.arrRefs (τ := τ) spec0 ⊆ Pipeline.ucRefs τ sig; decide) (V2' m c)]
  unfold Yk
  iintro ⟨Ha, -, ⟨Hr, -⟩, Hb, HO⟩
  isplitl [Ha Hr]
  · isplitl [Ha]; · iexact Ha
    iexact Hr
  isplitl [Hb]; · iexact Hb
  iexact HO

end Cert.KernelIdeal.Hand

end
-- ==== Proof.Deal.lean ====
module

public import proofs.«01_k».proof.Proof.Talk

@[expose] public section

/-! # What the launch deals

The cells and the turns of all four devices are made at once; each device gets its own cells' places, the turns it
pays at its neighbours, and credit for what its neighbours owe it. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Cells and turns -/

theorem osem_ne_bar : ∀ i : Fin 25, osem i ≠ .reg barS := by decide +kernel

def barEmb : Dev nD ↪ GSem nD τ sig := ⟨fun c => barCell c, fun _ _ h => congrArg (fun g : GSem nD τ sig => g.1.1) h⟩
def cellEmb : Dev nD × Fin 25 ↪ GSem nD τ sig :=
  ⟨fun p => cell p.2 p.1, fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map cellEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The turns of one device's cells: one at each of its own, a second at the last handshake's, two at the barrier's. -/
def turnSem (i : Fin 28) : SemLoc sig := if h : i.val < 25 then osem ⟨i.val, h⟩ else if i.val = 25 then .reg endS else .reg barS
def turnDuty (i : Fin 28) : Bool := decide (i.val = 25 ∨ i.val = 27)
theorem turn_inj : Function.Injective (fun i : Fin 28 => (turnSem i, turnDuty i)) := by decide +kernel
def turnEmb : Dev nD × Fin 28 ↪ GSem nD τ sig × ℕ × Bool :=
  ⟨fun p => (((p.1 : Thread nD τ), turnSem p.2), 0, turnDuty p.2), fun _ _ h =>
    Prod.ext (congrArg (fun t : GSem nD τ sig × ℕ × Bool => t.1.1.1) h)
      (turn_inj (Prod.ext (congrArg (fun t : GSem nD τ sig × ℕ × Bool => t.1.2) h) (congrArg (fun t : GSem nD τ sig × ℕ × Bool => t.2.2) h)))⟩
def turns : Finset (GSem nD τ sig × ℕ × Bool) := Finset.univ.map turnEmb

def upEmb25 : Fin 25 ↪ Fin 28 := ⟨fun i => ⟨i.val, by omega⟩, fun a b h => Fin.ext (show a.val = b.val from congrArg (fun i : Fin 28 => i.val) h)⟩

theorem by_turn (Φ : Fin 28 → sProp 𝕄) : bigSep Finset.univ Φ
    = iprop(Φ 25 ∗ Φ 26 ∗ Φ 27 ∗ bigSep Finset.univ fun i : Fin 25 => Φ (upEmb25 i)) := by
  rw [show (Finset.univ : Finset (Fin 28)) = insert 25 (insert 26 (insert 27 (Finset.univ.map upEmb25))) from by decide,
    bigSep_insert (by decide), bigSep_insert (by decide), bigSep_insert (by decide), bigSep_map]
  rfl

/-- The turns at a device's cells. -/
def turnsAt (c : Dev nD) : sProp 𝕄 :=
  iprop(dutyTok ER (endCell c) 0 true ∗ dutyTok ER (barCell c) 0 false ∗ dutyTok ER (barCell c) 0 true ∗ dutyTok ER (endCell c) 0 false
    ∗ (bigSep Finset.univ fun k : Fin 6 => (dutyTok ER (sendCell false k c) 0 false : sProp 𝕄))
    ∗ (bigSep Finset.univ fun k : Fin 6 => (dutyTok ER (recvCell false k c) 0 false : sProp 𝕄))
    ∗ (bigSep Finset.univ fun k : Fin 6 => (dutyTok ER (sendCell true k c) 0 false : sProp 𝕄))
    ∗ (bigSep Finset.univ fun k : Fin 6 => (dutyTok ER (recvCell true k c) 0 false : sProp 𝕄)))

/-- The turns a device pays. -/
def turnsOf (c : Dev nD) : sProp 𝕄 :=
  iprop(dutyTok ER (endCell (nb false c)) 0 true ∗ dutyTok ER (barCell (nb true c)) 0 false ∗ dutyTok ER (barCell (nb false c)) 0 true ∗ dutyTok ER (endCell (nb true c)) 0 false
    ∗ (bigSep Finset.univ fun k : Fin 6 => (dutyTok ER (sendCell false k c) 0 false : sProp 𝕄))
    ∗ (bigSep Finset.univ fun k : Fin 6 => (dutyTok ER (recvCell false k (nb false c)) 0 false : sProp 𝕄))
    ∗ (bigSep Finset.univ fun k : Fin 6 => (dutyTok ER (sendCell true k c) 0 false : sProp 𝕄))
    ∗ (bigSep Finset.univ fun k : Fin 6 => (dutyTok ER (recvCell true k (nb true c)) 0 false : sProp 𝕄)))

theorem turns_eq : bigSep turns (fun x => (dutyTok ER x.1 x.2.1 x.2.2 : sProp 𝕄)) = bigSep Finset.univ fun c : Dev nD => turnsAt c := by
  unfold turns; rw [bigSep_map, bigSep_univ_prod]
  refine bigSep_congr fun c _ => ?_
  rw [by_turn, by_kind]
  unfold turnsAt
  have hs (d : Bool) (k : Fin 6) : (dutyTok ER (turnEmb (c, upEmb25 (sIx d k))).1 (turnEmb (c, upEmb25 (sIx d k))).2.1 (turnEmb (c, upEmb25 (sIx d k))).2.2 : sProp 𝕄)
      = dutyTok ER (sendCell d k c) 0 false := by cases d <;> fin_cases k <;> rfl
  have hr (d : Bool) (k : Fin 6) : (dutyTok ER (turnEmb (c, upEmb25 (rIx d k))).1 (turnEmb (c, upEmb25 (rIx d k))).2.1 (turnEmb (c, upEmb25 (rIx d k))).2.2 : sProp 𝕄)
      = dutyTok ER (recvCell d k c) 0 false := by cases d <;> fin_cases k <;> rfl
  simp only [hs, hr]
  rfl

/-- Dealt around the rings, the turns at every device's cells are the turns every device pays. -/
theorem turns_around : (bigSep Finset.univ fun c : Dev nD => (turnsAt c : sProp 𝕄)) ⊢ bigSep Finset.univ fun c : Dev nD => (turnsOf c : sProp 𝕄) := by
  unfold turnsAt turnsOf
  simp only [bigSep_sep']
  rw [bigSep_univ_equiv (nbEquiv false) (fun c : Dev nD => (dutyTok ER (endCell c) 0 true : sProp 𝕄)),
    bigSep_univ_equiv (nbEquiv true) (fun c : Dev nD => (dutyTok ER (barCell c) 0 false : sProp 𝕄)),
    bigSep_univ_equiv (nbEquiv false) (fun c : Dev nD => (dutyTok ER (barCell c) 0 true : sProp 𝕄)),
    bigSep_univ_equiv (nbEquiv true) (fun c : Dev nD => (dutyTok ER (endCell c) 0 false : sProp 𝕄)),
    bigSep_univ_equiv (nbEquiv false) (fun c : Dev nD => bigSep Finset.univ fun k : Fin 6 => (dutyTok ER (recvCell false k c) 0 false : sProp 𝕄)),
    bigSep_univ_equiv (nbEquiv true) (fun c : Dev nD => bigSep Finset.univ fun k : Fin 6 => (dutyTok ER (recvCell true k c) 0 false : sProp 𝕄))]
  exact BI.Entails.refl _

/-! ## The credit -/

/-- What all devices together owe to the cell of semaphore `sm` of any one device. -/
def dueTot (sm : SemLoc sig) : ℕ → ℕ
  | 0 => (if SemLoc.reg endS = sm then 1 else 0) + (if SemLoc.reg endS = sm then 1 else 0)
  | j + 1 => dueTot sm j + (if SemLoc.dma (recvS true ⟨5 - j, by omega⟩) = sm then N else 0)
      + (if SemLoc.dma (recvS false ⟨5 - j, by omega⟩) = sm then N else 0)
def tot (sm : SemLoc sig) : ℕ := dueTot sm 6 + (if SemLoc.reg barS = sm then 1 else 0) + (if SemLoc.reg barS = sm then 1 else 0)

/-- One unit kind owed by every device to its neighbour on side `x`: each device is owed it once. -/
theorem sum_nb (x : Bool) (s sm : SemLoc sig) (n : ℕ) (c : Dev nD) :
    (∑ d : Dev nD, tallyAt (Ix := Unit) (((nb x d : Thread nD τ), s) : GSem nD τ sig) () n ((c : Thread nD τ), sm) ()) = if s = sm then n else 0 := by
  rw [Finset.sum_eq_single (nb (!x) c)]
  · rw [nb_nb, tallyAt_apply]
    by_cases h : s = sm
    · subst h; rw [if_pos ⟨rfl, rfl⟩, if_pos rfl]
    · rw [if_neg (fun h' => h (congrArg Prod.snd h'.1).symm), if_neg h]
  · intro d _ hd
    rw [tallyAt_apply, if_neg]
    rintro ⟨h, -⟩
    apply hd
    have e : c = nb x d := Fin.ext (congrArg (fun g : GSem nD τ sig => g.1.1.val) h)
    rw [e, nb_nb']
  · intro h; exact absurd (Finset.mem_univ _) h

theorem due_sum (sm : SemLoc sig) (c : Dev nD) : ∀ j : ℕ, (∑ d : Dev nD, due d j ((c : Thread nD τ), sm) ()) = dueTot sm j
  | 0 => by
    simp only [due, dueTot, Pi.add_apply, Finsupp.add_apply, Finset.sum_add_distrib]
    exact congrArg₂ (· + ·) (sum_nb false _ sm 1 c) (sum_nb true _ sm 1 c)
  | j + 1 => by
    simp only [due, dueTot, Pi.add_apply, Finsupp.add_apply, Finset.sum_add_distrib]
    exact congrArg₂ (· + ·) (congrArg₂ (· + ·) (due_sum sm c j) (sum_nb true _ sm N c)) (sum_nb false _ sm N c)

theorem owed_sum (sm : SemLoc sig) (c : Dev nD) : (∑ d : Dev nD, O₀ d ((c : Thread nD τ), sm) ()) = tot sm := by
  simp only [O₀, tot, Pi.add_apply, Finsupp.add_apply, Finset.sum_add_distrib]
  exact congrArg₂ (· + ·) (congrArg₂ (· + ·) (due_sum sm c 6) (sum_nb false _ sm 1 c)) (sum_nb true _ sm 1 c)

theorem tot_bar : tot (.reg barS) = 2 := by
  have h (d : Bool) (k : Fin 6) : SemLoc.dma (recvS d k) ≠ (.reg barS : SemLoc sig) := fun h => nomatch h
  have he : SemLoc.reg endS ≠ (.reg barS : SemLoc sig) := by decide
  simp only [tot, dueTot, if_neg (h _ _), if_neg he, if_true]
theorem tot_end : tot (.reg endS) = 2 := by
  have h (d : Bool) (k : Fin 6) : SemLoc.dma (recvS d k) ≠ (.reg endS : SemLoc sig) := fun h => nomatch h
  have he : SemLoc.reg barS ≠ (.reg endS : SemLoc sig) := by decide
  simp only [tot, dueTot, if_neg (h _ _), if_neg he, if_true]
theorem recvS_inj : ∀ (d d' : Bool) (k k' : Fin 6), (SemLoc.dma (recvS d k) = (.dma (recvS d' k') : SemLoc sig)) ↔ d = d' ∧ k = k' := by decide +kernel
theorem tot_recv (d : Bool) (k : Fin 6) : tot (.dma (recvS d k)) = N := by
  have hb : SemLoc.reg barS ≠ (.dma (recvS d k) : SemLoc sig) := fun h => nomatch h
  have he : SemLoc.reg endS ≠ (.dma (recvS d k) : SemLoc sig) := fun h => nomatch h
  simp only [tot, dueTot, if_neg he, if_neg hb, recvS_inj]
  generalize N = n
  cases d <;> fin_cases k <;> simp

theorem launch_tally (sm : SemLoc sig) (c : Dev nD) :
    tallyOn ((c : Thread nD τ), sm) (launchCredit (Pipeline.owing O₀) 0 ((c : Thread nD τ), sm))
      = (tallyAt ((c : Thread nD τ), sm) () (tot sm) : CellTallies nD τ sig Unit) := by
  unfold tallyAt; refine congrArg _ (Finsupp.ext fun u => ?_); cases u
  rw [Pipeline.launchCredit_owing, Finsupp.single_eq_same, owed_sum]

def recvEmb (d : Bool) : Fin 6 ↪ SemLoc sig := ⟨fun k => .dma (recvS d k), fun _ _ h => ((recvS_inj d d _ _).mp h).2⟩

/-- A device's credit at launch: for its barrier, its last handshake, and every arrival. -/
theorem credits (c : Dev nD) : (Pipeline.launchCred O₀ c : sProp 𝕄) ⊢ iprop(cred (tallyAt (barCell c) () 2) ∗ cred (tallyAt (endCell c) () 2)
    ∗ (bigSep Finset.univ fun k : Fin 6 => (cred (tallyAt (recvCell false k c) () N) : sProp 𝕄))
    ∗ (bigSep Finset.univ fun k : Fin 6 => (cred (tallyAt (recvCell true k c) () N) : sProp 𝕄))) := by
  unfold Pipeline.launchCred
  simp only [launch_tally]
  refine BI.Entails.trans (bigSep_subset (Finset.subset_univ (insert (SemLoc.reg barS) (insert (SemLoc.reg endS)
    (Finset.univ.map (recvEmb false) ∪ Finset.univ.map (recvEmb true)))))) ?_
  rw [bigSep_insert (by decide +kernel), bigSep_insert (by decide +kernel), bigSep_union (by decide +kernel), bigSep_map, bigSep_map, tot_bar, tot_end]
  have hr (d : Bool) (k : Fin 6) : (cred (tallyAt ((c : Thread nD τ), recvEmb d k) () (tot (recvEmb d k))) : sProp 𝕄) = cred (tallyAt (recvCell d k c) () N) := by
    show (cred (tallyAt ((c : Thread nD τ), .dma (recvS d k)) () (tot (.dma (recvS d k)))) : sProp 𝕄) = _
    rw [tot_recv]
  simp only [hr]
  exact BI.Entails.refl _

end Cert.KernelIdeal.Hand

end
-- ==== Proof.Run.lean ====
module

public import proofs.«01_k».proof.Proof.Deal

@[expose] public section

/-! # The run of the program

`init`: the launch gives every device what the call is entered with. `run_main`: every run of the program ends, with
the arguments unchanged, the output at `outA`, and every counter at zero. -/

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells turns)

/-- A resource given to device 0 alone. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp
def G : Dev nD → sProp 𝕄 := first (BI.own (ER (launchOf barCells ownCells turns)))

/-- What every device may consult: all the cells, and that every barrier cell is at its first round. -/
def common (κ : GSem nD τ sig → ℕ) : sProp 𝕄 :=
  iprop(recs (blocks m) κ ∗ bigSep Finset.univ fun c : Dev nD => (reached ER (barCell c) 0 : sProp 𝕄))
instance common_persistent (κ : GSem nD τ sig → ℕ) : BI.Persistent (common m κ) := by unfold common; infer_instance

theorem reached_bar (c : Dev nD) : (bigSep Finset.univ fun c : Dev nD => (reached ER (barCell c) 0 : sProp 𝕄)) ⊢ reached ER (barCell c) 0 :=
  bigSep_elim (Finset.mem_univ c)

/-- What is one device's alone, of the cells' and turns' making, -/
def alone (c : Dev nD) : sProp 𝕄 :=
  iprop(atPos ER (barCell c) 0 ∅ 0 ∗ (bigSep Finset.univ fun i : Fin 25 => (openTok ER (cell i c) : sProp 𝕄)) ∗ turnsOf c)
/-- and of the launch otherwise. -/
def rest (c : Dev nD) : sProp 𝕄 :=
  iprop(StableHlo.held (c : Thread nD τ) (Pipeline.ucRefs τ sig) (V0 m c)
    ∗ (cred (tallyAt (barCell c) () 2) ∗ cred (tallyAt (endCell c) () 2)
      ∗ (bigSep Finset.univ fun k : Fin 6 => (cred (tallyAt (recvCell false k c) () N) : sProp 𝕄))
      ∗ (bigSep Finset.univ fun k : Fin 6 => (cred (tallyAt (recvCell true k c) () N) : sProp 𝕄)))
    ∗ owes (c : Thread nD τ) (O₀ c) ∅ ∗ ∃ r, prngReg c r)

/-- What rides beside the buffers. -/
def E : Fin 2 → Dev nD → sProp 𝕄
  | 0, c => iprop((∃ r, prngReg c r) ∗ Tk m c ∗ ∃ W, owes (c : Thread nD τ) (O₀ c) W)
  | 1, c => iprop(semVal (barCell c) 0 ∗ ∃ W, owes (c : Thread nD τ) (0 : CellTallies nD τ sig Unit) W)
abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2' m c) ∗ semVal (barCell c) 0)

theorem mine_of (d : Bool) (c : Dev nD) :
    (iprop((bigSep Finset.univ fun k : Fin 6 => (dutyTok ER (sendCell d k c) 0 false : sProp 𝕄))
      ∗ (bigSep Finset.univ fun k : Fin 6 => (dutyTok ER (recvCell d k (nb d c)) 0 false : sProp 𝕄))
      ∗ (bigSep Finset.univ fun k : Fin 6 => (cred (tallyAt (recvCell d k c) () N) : sProp 𝕄))) : sProp 𝕄)
      ⊢ bigSep Finset.univ fun k : Fin 6 => (mine d k c : sProp 𝕄) := by
  unfold mine
  rw [← bigSep_sep', ← bigSep_sep']

theorem T₀_of (κ : GSem nD τ sig → ℕ) (c : Dev nD) : iprop(common m κ ∗ (alone c ∗ rest m c)) ⊢ T₀ m c := by
  unfold rest alone common T₀ E Tk dealt turnsOf
  iintro ⟨⟨#HR, #Hr⟩, ⟨Ab, Ho, En, Bp, Bn, Ep, Sf, Rf, St, Rt⟩, Hh, ⟨Cb, Ce, Cf, Ct⟩, HO, Hp⟩
  isplitl [Hh]; · iexact Hh
  isplitl [Hp]; · iexact Hp
  isplitr [HO]
  · isplitl [Ho]
    · iexists κ
      isplitr; · iexact HR
      iexact Ho
    isplitl [Bp]
    · isplitl [Bp]; · iexact Bp
      iapply (reached_bar (F := F) (prv c)); iexact Hr
    isplitl [Bn]
    · isplitl [Bn]; · iexact Bn
      iapply (reached_bar (F := F) (nxt c)); iexact Hr
    isplitl [Cb]; · iexact Cb
    isplitl [Ab]; · iexact Ab
    isplitl [Sf Rf Cf]
    · iapply (mine_of (F := F) false c)
      isplitl [Sf]; · iexact Sf
      isplitl [Rf]; · iexact Rf
      iexact Cf
    isplitl [St Rt Ct]
    · iapply (mine_of (F := F) true c)
      isplitl [St]; · iexact St
      isplitl [Rt]; · iexact Rt
      iexact Ct
    isplitl [Ep]; · iexact Ep
    isplitl [En]; · iexact En
    iexact Ce
  iexists ∅; iexact HO

theorem barSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The launch gives every device what the program is run from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) (Pipeline.ucRefs τ sig) (V0 m c)
      from Pipeline.unscopedBufs_held c (V0 m c), barSems_eq]
    unfold rest
    iintro ⟨Hh, Hb, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep ownCells (fun g => (openTok ER g : sProp 𝕄))
      ⊢ bigSep Finset.univ (fun c : Dev nD => bigSep Finset.univ fun i : Fin 25 => (openTok ER (cell i c) : sProp 𝕄)) :=
    Entails.of_eq (by rw [bigSep_map, bigSep_univ_prod]; rfl)
  have hinv (κ : GSem nD τ sig → ℕ) : bigSep (barCells ∪ ownCells) (fun g => (cellInv ER (ringRd (blocks m)) (κ g) g : sProp 𝕄)) ⊢ recs (blocks m) κ :=
    Entails.of_eq (by unfold recs; rw [bigSep_union cells_disjoint, bigSep_map, bigSep_map]; rfl)
  have un {Φ Ψ : Dev nD → sProp 𝕄} : bigSep Finset.univ (fun c => iprop(Φ c ∗ Ψ c)) ⊢ iprop(bigSep Finset.univ Φ ∗ bigSep Finset.univ Ψ) :=
    Entails.of_eq (bigSep_sep' _ _ _)
  have re {Φ Ψ : Dev nD → sProp 𝕄} : iprop(bigSep Finset.univ Φ ∗ bigSep Finset.univ Ψ) ⊢ bigSep Finset.univ (fun c => iprop(Φ c ∗ Ψ c)) :=
    Entails.of_eq (bigSep_sep' _ _ _).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => hcore c) $$ H
  ihave H2 := un $$ H'; icases H2 with ⟨HB, H3⟩
  ihave H4 := un $$ H3; icases H4 with ⟨Hv, HG⟩
  ihave Hu := (show bigSep Finset.univ (G (F := F)) ⊢ BI.own (ER (launchOf barCells ownCells turns)) from
    Entails.of_eq (bigSep_first (F := F) (BI.own (ER (launchOf barCells ownCells turns))))) $$ HG
  imod (Rounds.fund_launch ER (ringRd (blocks m)) cells_disjoint (fun g _ h => h) turns) $$ [Hv Hu] with ⟨%κ, -, #Hinv, #Hr, Hat, Hopen, Htok⟩
  · isplitl [Hv]
    · iapply hv $$ Hv
    · iexact Hu
  imodintro
  iapply (bigSep_with_persistent (R := common m κ) (Φ := fun c => iprop(alone c ∗ rest m c)) fun c _ => T₀_of m κ c)
  isplitr
  · unfold common
    isplitr; · iapply (hinv κ); iexact Hinv
    iapply hre; iexact Hr
  iapply re
  isplitr [HB]
  · unfold alone
    iapply re; isplitl [Hat]; · iapply hat $$ Hat
    iapply re; isplitl [Hopen]; · iapply hop $$ Hopen
    iapply (turns_around (F := F))
    iapply (Entails.of_eq (turns_eq (F := F))) $$ Htok
  · iexact HB

/-! ## The run -/

theorem only_bar : ∀ sm : SemLoc sig, sm.isScoped .tc = false → sm = .reg barS := by decide +kernel

theorem V2'_arg (c : Dev nD) (r : Ref sig .tc) (h : r ∉ hostOps0_W) (h' : Proc.devRef (τ := τ) .tc r ≠ Proc.devRef .tc main_v20) :
    V2' m c (Proc.devRef .tc r) = m ((c.tc : Thread nD τ).loc r) :=
  (V2'_of m c h').trans (V1_of m c r h)

set_option backward.isDefEq.respectTransparency.types false in
theorem run_main : θ_run defs (onTc (τ := τ) (main (F := F))) ⟨m, fun _ => 0, ρ⟩ (fun r => (∀ c : Dev nD,
      r.2.mem ((c.tc : Thread nD τ).loc main_v20) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m))
    (fun c Q => by
      rewrite [main_chain c, Seg.run_eq_chain,
        show (segs m 𝒱₀ L lv (E m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_first]; iexact HX)
    (T₀ := T₀ m) (Tₙ := Tₙ m)
    (hch := fun c => ⟨.rfl, reg0_pre m c, (reg0_post m c).trans (by
      iintro ⟨Hh, Hb, HO⟩
      isplitr [HO]
      · isplitl [Hh] <;> iassumption
      iexact HO)⟩)
    (hinit := init m ρ)
    (QY := fun c s => (s.mem ((c.tc : Thread nD τ).loc main_v20) = outA m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (hfin := fun c s' => ?_)
    (hQ := fun s h hs => ⟨fun c => (h c).1, sem_eq_zero hs fun c sm hsm => by
      obtain rfl := only_bar sm hsm
      exact (h c).2⟩)
  unfold Tₙ StableHlo.held
  iintro ⟨⟨Hh, Hb⟩, HSI⟩
  icombine HSI Hb gives %hb
  ihave Hr := (pointsTo_read_all (Pipeline.ucRefs τ sig) (fun b => ((c : Thread nD τ).1, b)) (V2' m c) s') $$ [Hh HSI]
  · isplitl [Hh] <;> iassumption
  icases Hr with ⟨%h, HSI⟩
  imodintro
  isplitr
  · ipureintro
    have hm (r : Ref sig .tc) (hr : ¬ (Proc.devRef (τ := τ) .tc r).isScoped) : Proc.devRef (τ := τ) .tc r ∈ Pipeline.ucRefs τ sig :=
      Finset.mem_filter.mpr ⟨StableHlo.devRef_mem_tcRefs r, hr⟩
    exact ⟨⟨(h (Proc.devRef .tc main_v20) (hm _ (by decide))).trans (V2'_out m c),
      (h (Proc.devRef .tc main_arg0) (hm _ (by decide))).trans (V2'_arg m c main_arg0 (by decide) (by decide)),
      (h (Proc.devRef .tc main_arg1) (hm _ (by decide))).trans (V2'_arg m c main_arg1 (by decide) (by decide)),
      (h (Proc.devRef .tc main_arg2) (hm _ (by decide))).trans (V2'_arg m c main_arg2 (by decide) (by decide)),
      (h (Proc.devRef .tc main_arg3) (hm _ (by decide))).trans (V2'_arg m c main_arg3 (by decide) (by decide)),
      (h (Proc.devRef .tc main_arg4) (hm _ (by decide))).trans (V2'_arg m c main_arg4 (by decide) (by decide))⟩, by simpa using hb⟩
  iexact HSI

end Cert.KernelIdeal.Hand

end
-- ==== Proof.Pieces.lean ====
module

public import proofs.«01_k».proof.Proof.Region

@[expose] public section

/-! # What the first part of the body stores, block by block

The first part's stores are three families: eight row blocks of the query, sixty-four blocks of the context (one per
head and row block), and eight row blocks of the product. Each family has one payload, stated here once. -/

noncomputable section

namespace Cert.KernelIdeal.Hand

open Cert.KernelIdeal Cert.KernelIdeal.Gen
open Idealize.ShloMosaic
open Idealize.ShloMosaic.TcCoe

variable {F : FTy → Type} [FloatOps F] [Named F]

/-! ## The three payloads -/

/-- A row block of the query. -/
def qPay (x : FVec F S256x1024 .bf16) (w : FVec F S1024x1024 .bf16) : FVec F S256x1024 .bf16 :=
  shapeCast S256x1024 (truncf .bf16 (matmul dot_S256x1024_S1024x1024_S256x1024_1_0_0_1_n_n none
    (shapeCast S256x1024 x shapeCasts_S256x1024_S256x1024) (shapeCast S1024x1024 w shapeCasts_S1024x1024_S1024x1024)
    (constant S256x1024 .f32 0x00000000#32)) bitsLt_bf16_f32) shapeCasts_S256x1024_S256x1024

/-- Which keys of a window a row sees: the rows start at `qo`, the keys at `ko`. -/
def seen (qo ko : ℕ) : IVec S256x768 1 :=
  cmpi .sle (absi (subi (addi (iota .tc S256x768 32 [0] iota_S256x768_d0_w32) (broadcast S256x768 (BitVec.ofNat 32 qo)))
    (addi (iota .tc S256x768 32 [1] iota_S256x768_d1_w32) (broadcast S256x768 (BitVec.ofNat 32 ko))))) (broadcast S256x768 128#32)

/-- The masked scores of a row block against a window of keys. -/
def scores (qo ko : ℕ) (q : FVec F S256x128 .bf16) (k : FVec F S1x768x128 .bf16) : FVec F S256x768 .f32 :=
  select (seen qo ko)
    (mulf (matmul dot_S256x128_S768x128_S256x768_1_1_0_0_n_n none q (shapeCast S768x128 k shapeCasts_S1x768x128_S768x128)
      (constant S256x768 .f32 0x00000000#32)) (broadcast S256x768 (Scalar.ofBits .f32 0x3DB504F3#32)))
    (broadcast S256x768 (Named.named κ "mask" 0xCE6E6B28#32))

/-- The weights of a row block: the exponentials of the scores less the row's greatest, and those divided by their sum. -/
def raised (s : FVec F S256x768 .f32) : FVec F S256x768 .f32 :=
  exp (subf s (broadcastTo S256x768 (shapeCast S256x1
    (multiReduction .maximumf [1] S256 s 0xFF800000#32 reduces_S256x768_S256 (.inl rfl) rfl) shapeCasts_S256_S256x1) broadcasts_S256x1_S256x768))
def weights (e : FVec F S256x768 .f32) : FVec F S256x768 .f32 :=
  divf e (broadcastTo S256x768 (shapeCast S256x1
    (multiReduction .add [1] S256 e 0x00000000#32 reduces_S256x768_S256 (.inl rfl) rfl) shapeCasts_S256_S256x1) broadcasts_S256x1_S256x768)

/-- A block of the context: the weights times the window of values. -/
def ctxPay (qo ko : ℕ) (q : FVec F S256x128 .bf16) (k v : FVec F S1x768x128 .bf16) : FVec F S256x128 .bf16 :=
  shapeCast S256x128 (truncf .bf16 (matmul dot_S256x768_S768x128_S256x128_1_0_0_1_n_n none
    (truncf .bf16 (weights (raised (scores qo ko q k))) bitsLt_bf16_f32) (shapeCast S768x128 v shapeCasts_S1x768x128_S768x128)
    (constant S256x128 .f32 0x00000000#32)) bitsLt_bf16_f32) shapeCasts_S256x128_S256x128

/-- A row block of the product. -/
def outPay (x : FVec F S256x1024 .bf16) (w : FVec F S1024x1024 .bf16) : FVec F S1x256x1024 .f32 :=
  shapeCast S1x256x1024 (matmul dot_S256x1024_S1024x1024_S256x1024_1_0_0_1_n_n none x
    (shapeCast S1024x1024 w shapeCasts_S1024x1024_S1024x1024) (constant S256x1024 .f32 0x00000000#32)) shapeCasts_S256x1024_S1x256x1024

/-! ## The blocks -/

/-- Where the window of row block `i` starts. -/
def winOff (i : ℕ) : ℕ := min (256 * i - 256) 1280

abbrev rows (i : Fin 8) : Rect S2048x1024 := Rect.unit (s := S2048x1024) ![256 * i.val, 0] S256x1024.size (by revert i; decide)
abbrev headRows (h i : Fin 8) : Rect S2048x1024 := Rect.unit (s := S2048x1024) ![256 * i.val, 128 * h.val] S256x128.size (by revert h i; decide)
abbrev win (h i : Fin 8) : Rect S8x2048x128 := Rect.unit (s := S8x2048x128) ![h.val, winOff i.val, 0] S1x768x128.size (by revert h i; decide)
abbrev outRows (i : Fin 8) : Rect S1x2048x1024 := Rect.unit (s := S1x2048x1024) ![0, 256 * i.val, 0] S1x256x1024.size (by revert i; decide)
abbrev allOf : Rect S1024x1024 := Rect.unit (s := S1024x1024) ![0, 0] S1024x1024.size (by decide)

section Blocks

variable (c : Dev nD)
  (M0 : Memref sig .tc .vmem S2048x1024 .bf16) (M1 : Memref sig .tc .vmem S1024x1024 .bf16)
  (M2 M3 : Memref sig .tc .vmem S8x2048x128 .bf16) (M4 : Memref sig .tc .vmem S1024x1024 .bf16)
  (M6 M7 : Memref sig .tc .vmem S2048x1024 .bf16)
  (f0 : Bf F c M0) (f1 : Bf F c M1) (f2 : Bf F c M2) (f3 : Bf F c M3) (f4 : Bf F c M4)

def qPiece (i : Fin 8) : View.Piece (Elt F) S2048x1024 .bf16 :=
  ⟨rows i, qPay (View.readAt (Elt F) M0.view (rows i).toLoadRect f0) (View.readAt (Elt F) M1.view allOf.toLoadRect f1)⟩
def qPieces : List (View.Piece (Elt F) S2048x1024 .bf16) := (List.finRange 8).reverse.map (qPiece c M0 M1 f0 f1)

def ctxPiece (h i : Fin 8) : View.Piece (Elt F) S2048x1024 .bf16 :=
  ⟨headRows h i, ctxPay (256 * i.val) (winOff i.val) (M6.view.readCov (qPieces c M0 M1 f0 f1) (headRows h i).toLoadRect)
    (View.readAt (Elt F) M2.view (win h i).toLoadRect f2) (View.readAt (Elt F) M3.view (win h i).toLoadRect f3)⟩
def ctxPieces : List (View.Piece (Elt F) S2048x1024 .bf16) :=
  (List.finRange 8).reverse.flatMap fun h => (List.finRange 8).reverse.map fun i => ctxPiece c M0 M1 M2 M3 M6 f0 f1 f2 f3 h i

def outPiece (i : Fin 8) : View.Piece (Elt F) S1x2048x1024 .f32 :=
  ⟨outRows i, outPay (M7.view.readCov (ctxPieces c M0 M1 M2 M3 M6 f0 f1 f2 f3) (rows i).toLoadRect)
    (View.readAt (Elt F) M4.view allOf.toLoadRect f4)⟩
def outPieces : List (View.Piece (Elt F) S1x2048x1024 .f32) :=
  (List.finRange 8).reverse.map (outPiece c M0 M1 M2 M3 M4 M6 M7 f0 f1 f2 f3 f4)

theorem query_stores : prefixRun.sl.H6_8 c M0 M1 f0 f1 = qPieces c M0 M1 f0 f1 := rfl

theorem context_stores : prefixRun.sl.H7_64 c M0 M1 M2 M3 M6 f0 f1 f2 f3 = ctxPieces c M0 M1 M2 M3 M6 f0 f1 f2 f3 := rfl

theorem product_stores (h0 : M0.IsWhole) (h1 : M1.IsWhole) (h2 : M2.IsWhole) (h3 : M3.IsWhole) (h4 : M4.IsWhole)
    (M5 : Memref sig .tc .vmem S1x2048x1024 .f32) (h5 : M5.IsWhole) :
    ownPieces c M0 h0 M1 h1 M2 h2 M3 h3 M4 h4 M5 h5 f0 f1 f2 f3 f4
      = outPieces c M0 M1 M2 M3 M4 (Memref.whole cc0_scratch0) (Memref.whole cc0_scratch1) f0 f1 f2 f3 f4 := rfl

end Blocks

end Cert.KernelIdeal.Hand

end
-- ==== Proof.Attn.lean ====
module

public import Idealize.ShloMosaic.PureOps.Ideal

@[expose] public section

/-! # Masked attention of one row over the extended reals

`mix s v` is the row's attention: scores `s`, a masked score being `⊥`, and values `v`. The one theorem that the
kernel needs is `mix_window`: keys whose score is `⊥` may be left out. -/

noncomputable section

namespace Cert.Value

open Idealize.ShloMosaic

/-- A finite extended real. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩
theorem IsReal.add {x y : EReal} : IsReal x → IsReal y → IsReal (x + y)
  | ⟨a, ha⟩, ⟨b, hb⟩ => ⟨a + b, by rw [ha, hb, EReal.coe_add]⟩
theorem IsReal.sum {ι : Type} (s : Finset ι) (f : ι → EReal) (h : ∀ i, IsReal (f i)) : IsReal (∑ i ∈ s, f i) := by
  classical
  induction s using Finset.induction_on with
  | empty => exact ⟨0, by rw [Finset.sum_empty, EReal.coe_zero]⟩
  | insert a s ha ih => rw [Finset.sum_insert ha]; exact (h a).add ih
theorem IsReal.ne_top {x : EReal} : IsReal x → x ≠ ⊤ | ⟨a, ha⟩ => ha ▸ EReal.coe_ne_top a
theorem IsReal.ne_bot {x : EReal} : IsReal x → x ≠ ⊥ | ⟨a, ha⟩ => ha ▸ EReal.coe_ne_bot a

/-- A value whose magnitude is below infinity is finite. -/
theorem isReal_of_abs_lt {x : EReal} (h : max x (-x) < ⊤) : IsReal x := by
  induction x using EReal.rec with
  | bot => exact absurd h (by simp)
  | coe r => exact ⟨r, rfl⟩
  | top => exact absurd h (by simp)

variable {ι κ : Type} [Fintype ι] [Fintype κ]

/-- The greatest score, the unnormalised weights and the attention of a row. -/
def top (s : ι → EReal) : EReal := Finset.univ.fold max ⊥ s
def wt (s : ι → EReal) (j : ι) : EReal := Ideal.exp (s j - top s)
def mix (s v : ι → EReal) : EReal := ∑ j, Ideal.div (wt s j) (∑ i, wt s i) * v j

theorem top_eq_sup (s : ι → EReal) : top s = Finset.univ.sup s := rfl

theorem exp_nonneg (x : EReal) : 0 ≤ Ideal.exp x := by
  induction x using EReal.rec with
  | bot => exact le_refl _
  | coe r => exact EReal.coe_nonneg.mpr (Real.exp_pos r).le
  | top => exact le_top

theorem top_window (e : ι → κ) (s : κ → EReal) (hs : ∀ k, k ∉ Set.range e → s k = ⊥) : top (s ∘ e) = top s := by
  rw [top_eq_sup, top_eq_sup]
  refine le_antisymm (Finset.sup_le fun i _ => Finset.le_sup (f := s) (Finset.mem_univ (e i))) (Finset.sup_le fun k _ => ?_)
  by_cases hk : k ∈ Set.range e
  · obtain ⟨i, rfl⟩ := hk
    exact Finset.le_sup (f := s ∘ e) (Finset.mem_univ i)
  · rw [hs k hk]; exact bot_le

/-- The greatest score is one of the scores, so it is finite when no score is `⊤` and some score is not `⊥`. -/
theorem top_mem (s : κ → EReal) (k : κ) (hk : s k ≠ ⊥) : ∃ k', s k' = top s := by
  rw [top_eq_sup]
  obtain ⟨k', _, h⟩ := Finset.exists_mem_eq_sup Finset.univ ⟨k, Finset.mem_univ k⟩ s
  exact ⟨k', h.symm⟩
theorem top_isReal (s : κ → EReal) (ht : ∀ k, s k ≠ ⊤) (k : κ) (hk : s k ≠ ⊥) : IsReal (top s) := by
  obtain ⟨k', h⟩ := top_mem s k hk
  have h1 : top s ≠ ⊤ := h ▸ ht k'
  have h2 : top s ≠ ⊥ := fun h0 => hk (le_bot_iff.mp (h0 ▸ (top_eq_sup s ▸ Finset.le_sup (f := s) (Finset.mem_univ k))))
  exact ⟨(top s).toReal, (EReal.coe_toReal h1 h2).symm⟩

/-- A masked key has weight zero, and the weights add up to something other than zero. -/
theorem wt_masked (s : κ → EReal) (k : κ) (hk : s k = ⊥) : wt s k = 0 := by
  unfold wt; rw [hk, EReal.bot_sub]; rfl
theorem den_ne_zero (s : κ → EReal) (ht : ∀ k, s k ≠ ⊤) (k : κ) (hk : s k ≠ ⊥) : ∑ i, wt s i ≠ 0 := by
  obtain ⟨r, hr⟩ := top_isReal s ht k hk
  obtain ⟨k', h⟩ := top_mem s k hk
  have h1 : wt s k' = 1 := by
    unfold wt; rw [h, hr, ← EReal.coe_sub, sub_self]
    show ((Real.exp 0 : ℝ) : EReal) = 1
    rw [Real.exp_zero, EReal.coe_one]
  have h2 : wt s k' ≤ ∑ i, wt s i := Finset.single_le_sum (f := wt s) (fun i _ => exp_nonneg _) (Finset.mem_univ k')
  intro h0
  rw [h0, h1] at h2
  exact absurd h2 (by simp)

/-- Keys whose score is `⊥` may be left out of a row's attention. -/
theorem mix_window (e : ι → κ) (he : Function.Injective e) (s v : κ → EReal) (hs : ∀ k, k ∉ Set.range e → s k = ⊥)
    (ht : ∀ k, s k ≠ ⊤) (k : κ) (hk : s k ≠ ⊥) : mix (s ∘ e) (v ∘ e) = mix s v := by
  have hw : ∀ i, wt (s ∘ e) i = wt s (e i) := fun i => by unfold wt; rw [top_window e s hs]; rfl
  have hd : ∑ i, wt (s ∘ e) i = ∑ k, wt s k :=
    Fintype.sum_of_injective e he _ _ (fun k hk => wt_masked s k (hs k hk)) hw
  unfold mix
  refine Fintype.sum_of_injective e he _ _ (fun k' hk' => ?_) (fun i => by rw [hw, hd]; rfl)
  rw [wt_masked s k' (hs k' hk')]
  unfold Ideal.div
  rw [if_neg (den_ne_zero s ht k hk), zero_mul, zero_mul]

end Cert.Value

end
-- ==== Proof.Near.lean ====
module

public import Idealize.ShloMosaic.PureOps.Ideal
public import Idealize.ShloMosaic.Lib.Pointwise
public import Idealize.ShloMosaic.Lib.Tactic.WordOmega

@[expose] public section

/-! # Which keys a row sees, and the float constants of the two programs -/

noncomputable section

namespace Cert.Value

open Idealize.ShloMosaic

/-- Row `a` sees key `b`: they are at most 128 apart. -/
abbrev near (a b : ℕ) : Prop := a ≤ b + 128 ∧ b ≤ a + 128

theorem toInt_small (a : ℕ) (ha : a < 4096) : (BitVec.ofNat 32 a).toInt = a := by
  have h : (BitVec.ofNat 32 a).toNat = a := by rw [BitVec.toNat_ofNat]; omega
  rw [BitVec.toInt_eq_toNat_of_lt (by rw [h]; omega), h]
theorem toInt_diff (a b : ℕ) (ha : a < 4096) (hb : b < 4096) :
    (BitVec.ofNat 32 a - BitVec.ofNat 32 b).toInt = (a : ℤ) - b := by
  rw [BitVec.toInt_sub, toInt_small a ha, toInt_small b hb, Int.bmod_eq_of_le (by omega) (by omega)]

/-- The comparison of words that both programs make. -/
theorem near_word (a b : ℕ) (ha : a < 4096) (hb : b < 4096) :
    IntOp.cmpi .sle (IntOp.absi (IntOp.subi (BitVec.ofNat 32 a) (BitVec.ofNat 32 b))) 128#32 = if near a b then 1#1 else 0#1 := by
  have hd := toInt_diff a b ha hb
  unfold IntOp.cmpi IntOp.absi IntOp.subi
  generalize BitVec.ofNat 32 a - BitVec.ofNat 32 b = w at hd
  have h128 : (128#32 : BitVec 32).toInt = 128 := by decide
  have hm : w.msb = decide (w.toInt < 0) := BitVec.msb_eq_toInt
  by_cases hlt : (a : ℤ) < b
  · rw [if_pos (by rw [hm, hd]; exact decide_eq_true (by omega))]
    have hneg : (-w).toInt = (b : ℤ) - a := by
      rw [BitVec.toInt_neg, hd, Int.bmod_eq_of_le (by omega) (by omega)]; omega
    dsimp only
    rw [BitVec.sle_eq_decide, hneg, h128]
    by_cases hn : near a b
    · rw [if_pos hn, decide_eq_true (by omega)]; rfl
    · rw [if_neg hn, decide_eq_false (by omega)]; rfl
  · rw [if_neg (by rw [hm, hd, decide_eq_false (by omega)]; exact Bool.false_ne_true)]
    dsimp only
    rw [BitVec.sle_eq_decide, hd, h128]
    by_cases hn : near a b
    · rw [if_pos hn, decide_eq_true (by omega)]; rfl
    · rw [if_neg hn, decide_eq_false (by omega)]; rfl

/-- The scale of the scores, a finite number, and minus infinity. -/
abbrev scale : EReal := Ideal.ofBits .f32 0x3DB504F3#32
theorem ofBits_scale : ∃ r : ℝ, scale = (r : EReal) := by
  show ∃ r : ℝ, Ideal.ieee 8 23 (0x3DB504F3#32 : BitVec 32) = (r : EReal)
  unfold Ideal.ieee
  rw [if_neg (by decide), if_neg (by decide)]
  exact ⟨_, rfl⟩
theorem ofBits_low : Ideal.ofBits .f32 0xFF800000#32 = ⊥ := by
  show Ideal.ieee 8 23 (0xFF800000#32 : BitVec 32) = _
  unfold Ideal.ieee
  rw [if_pos (by decide), if_pos (by decide), if_pos (by decide)]
theorem ofBits_high : Ideal.ofBits .bf16 0x7F80#16 = ⊤ := by
  show Ideal.ieee 8 7 (0x7F80#16 : BitVec 16) = _
  unfold Ideal.ieee
  rw [if_pos (by decide), if_pos (by decide), if_neg (by decide)]

end Cert.Value

end
-- ==== Proof.Pay.lean ====
module

public import proofs.«01_k».proof.Proof.Pieces
public import proofs.«01_k».proof.Proof.Attn
public import proofs.«01_k».proof.Proof.Near

@[expose] public section

/-! # The three payloads over the extended reals, element by element -/

noncomputable section

namespace Cert.KernelIdeal.Hand

open Cert.KernelIdeal Cert.KernelIdeal.Gen Cert.Value
open Idealize.ShloMosaic

theorem qPay_apply (x : FVec Ideal S256x1024 .bf16) (w : FVec Ideal S1024x1024 .bf16) (r : Fin 256) (l : Fin 1024) :
    qPay x w (ix2 r l) = ∑ k : Fin 1024, x (ix2 r k) * w (ix2 k l) := by
  pointwise [qPay]

theorem outPay_apply (x : FVec Ideal S256x1024 .bf16) (w : FVec Ideal S1024x1024 .bf16) (r : Fin 256) (l : Fin 1024) :
    outPay x w (ix3 0 r l) = ∑ k : Fin 1024, x (ix2 r k) * w (ix2 k l) := by
  pointwise [outPay]

theorem addi_ofNat (a b : ℕ) : IntOp.addi (BitVec.ofNat 32 a) (BitVec.ofNat 32 b) = BitVec.ofNat 32 (b + a) := by
  unfold IntOp.addi; rw [← BitVec.ofNat_add, Nat.add_comm]

theorem seen_apply (qo ko : ℕ) (hq : qo ≤ 1792) (hk : ko ≤ 1280) (r : Fin 256) (j : Fin 768) :
    seen qo ko (ix2 r j) = if near (qo + r.val) (ko + j.val) then 1#1 else 0#1 := by
  rw [← near_word _ _ (by omega) (by omega)]
  pointwise [seen]
  rw [addi_ofNat, addi_ofNat]

/-- The masked score of row `r` of a row block against key `j` of a window. -/
def score (qo ko : ℕ) (q : FVec Ideal S256x128 .bf16) (k : FVec Ideal S1x768x128 .bf16) (r : Fin 256) (j : Fin 768) : EReal :=
  if near (qo + r.val) (ko + j.val) then (∑ d : Fin 128, q (ix2 r d) * k (ix3 0 j d)) * scale else ⊥

theorem named_mask : Named.named (F := Ideal) (φ := .f32) κ "mask" 0xCE6E6B28#32 = ⊥ :=
  IdealRules.named_const.ideal_named_scalar _ _ _ _ rfl

theorem scores_apply (qo ko : ℕ) (hq : qo ≤ 1792) (hk : ko ≤ 1280) (q : FVec Ideal S256x128 .bf16) (k : FVec Ideal S1x768x128 .bf16)
    (r : Fin 256) (j : Fin 768) : scores qo ko q k (ix2 r j) = score qo ko q k r j := by
  pointwise [scores]
  rw [seen_apply qo ko hq hk, named_mask]
  unfold score
  split <;> rfl

theorem raised_apply (s : FVec Ideal S256x768 .f32) (r : Fin 256) (j : Fin 768) :
    raised s (ix2 r j) = wt (fun j => s (ix2 r j)) j := by
  pointwise [raised]
  rw [ofBits_low]
  rfl

theorem weights_apply (e : FVec Ideal S256x768 .f32) (r : Fin 256) (j : Fin 768) :
    weights e (ix2 r j) = Ideal.div (e (ix2 r j)) (∑ i, e (ix2 r i)) := by
  pointwise [weights]

theorem ctxPay_raw (qo ko : ℕ) (q : FVec Ideal S256x128 .bf16) (k v : FVec Ideal S1x768x128 .bf16) (r : Fin 256) (e : Fin 128) :
    ctxPay qo ko q k v (ix2 r e) = ∑ j : Fin 768, weights (raised (scores qo ko q k)) (ix2 r j) * v (ix3 0 j e) := by
  pointwise [ctxPay]

/-- A block of the context is the attention of its rows over the window. -/
theorem ctxPay_apply (qo ko : ℕ) (hq : qo ≤ 1792) (hk : ko ≤ 1280) (q : FVec Ideal S256x128 .bf16) (k v : FVec Ideal S1x768x128 .bf16)
    (r : Fin 256) (e : Fin 128) : ctxPay qo ko q k v (ix2 r e) = mix (score qo ko q k r) (fun j => v (ix3 0 j e)) := by
  rw [ctxPay_raw]
  unfold mix
  simp only [weights_apply, raised_apply, scores_apply qo ko hq hk]

end Cert.KernelIdeal.Hand

end
-- ==== Proof.Own.lean ====
module

public import proofs.«01_k».proof.Proof.Pay
public import Idealize.ShloMosaic.Lib.Pipeline.Value

@[expose] public section

/-! # What the first part of the body leaves, over the extended reals

`query`, `context` and `product` are a device's three results as functions of what was staged for it: the row times the
device's columns of the query weights, the attention of a row under one head over ALL keys, and the context times
the device's rows of the output weights. The stores of the first part leave exactly these. -/

noncomputable section

namespace Cert.KernelIdeal.Hand

open Cert.KernelIdeal Cert.KernelIdeal.Gen Cert.Value
open Idealize.ShloMosaic
open Idealize.ShloMosaic.TcCoe

section Spec

variable (X : FVec Ideal S2048x1024 .bf16) (W : FVec Ideal S1024x1024 .bf16) (K V : FVec Ideal S8x2048x128 .bf16)
  (O : FVec Ideal S1024x1024 .bf16)

def query : FVec Ideal S2048x1024 .bf16 := fun i => ∑ k : Fin 1024, X (ix2 (i 0) k) * W (ix2 k (i 1))

/-- Column `d` of head `h`, and the head and the column within it of a column. -/
def col (h : Fin 8) (d : Fin 128) : Fin 1024 := ⟨128 * h.val + d.val, by omega⟩
def headOf (l : Fin 1024) : Fin 8 := ⟨l.val / 128, by omega⟩
def inHead (l : Fin 1024) : Fin 128 := ⟨l.val % 128, by omega⟩

/-- The product of a query row and a key, and the masked score. -/
def dotQK (h : Fin 8) (r j : Fin 2048) : EReal := ∑ d : Fin 128, query X W (ix2 r (col h d)) * K (ix3 h j d)
def rowScore (h : Fin 8) (r j : Fin 2048) : EReal := if near r.val j.val then dotQK X W K h r j * scale else ⊥

def context : FVec Ideal S2048x1024 .bf16 := fun i =>
  mix (rowScore X W K (headOf (i 1)) (i 0)) (fun j => V (ix3 (headOf (i 1)) j (inHead (i 1))))

def product : FVec Ideal S1x2048x1024 .f32 := fun i => ∑ d : Fin 1024, context X W K V (ix2 (i 1) d) * O (ix2 d (i 2))

/-! ## The blocks' places -/

def atRow (i : Fin 8) (r : Fin 256) : Fin 2048 := ⟨256 * i.val + r.val, by omega⟩
def atKey (i : Fin 8) (j : Fin 768) : Fin 2048 := ⟨winOff i.val + j.val, by unfold winOff; omega⟩

theorem rows_emb (i : Fin 8) (r : Fin 256) (l : Fin 1024) : (rows i).emb (ix2 r l) = ix2 (atRow i r) l := by
  funext a; apply Fin.ext; fin_cases a
  · show 256 * i.val + 1 * r.val = 256 * i.val + r.val; omega
  · show 0 + 1 * l.val = l.val; omega
theorem allOf_emb (r : Fin 1024) (l : Fin 1024) : allOf.emb (ix2 r l) = ix2 r l := by
  funext a; apply Fin.ext; fin_cases a
  · show 0 + 1 * r.val = r.val; omega
  · show 0 + 1 * l.val = l.val; omega
theorem headRows_emb (h i : Fin 8) (r : Fin 256) (d : Fin 128) : (headRows h i).emb (ix2 r d) = ix2 (atRow i r) (col h d) := by
  funext a; apply Fin.ext; fin_cases a
  · show 256 * i.val + 1 * r.val = 256 * i.val + r.val; omega
  · show 128 * h.val + 1 * d.val = 128 * h.val + d.val; omega
theorem win_emb (h i : Fin 8) (j : Fin 768) (d : Fin 128) : (win h i).emb (ix3 0 j d) = ix3 h (atKey i j) d := by
  funext a; apply Fin.ext; fin_cases a
  · show h.val + 1 * 0 = h.val; omega
  · show winOff i.val + 1 * j.val = winOff i.val + j.val; omega
  · show 0 + 1 * d.val = d.val; omega
theorem outRows_emb (i : Fin 8) (r : Fin 256) (l : Fin 1024) : (outRows i).emb (ix3 0 r l) = ix3 0 (atRow i r) l := by
  funext a; apply Fin.ext; fin_cases a
  · show 0 + 1 * 0 = 0; omega
  · show 256 * i.val + 1 * r.val = 256 * i.val + r.val; omega
  · show 0 + 1 * l.val = l.val; omega

theorem mem_reverse (i : Fin 8) : i ∈ (List.finRange 8).reverse := List.mem_reverse.mpr (List.mem_finRange i)
theorem atRow_surj (r : Fin 2048) : ∃ i r', r = atRow i r' :=
  ⟨⟨r.val / 256, by omega⟩, ⟨r.val % 256, by omega⟩, Fin.ext (by show r.val = 256 * (r.val / 256) + r.val % 256; omega)⟩
theorem col_surj (l : Fin 1024) : ∃ h d, l = col h d :=
  ⟨headOf l, inHead l, Fin.ext (by show l.val = 128 * (l.val / 128) + l.val % 128; omega)⟩
theorem headOf_col (h : Fin 8) (d : Fin 128) : headOf (col h d) = h := Fin.ext (by show (128 * h.val + d.val) / 128 = h.val; omega)
theorem inHead_col (h : Fin 8) (d : Fin 128) : inHead (col h d) = d := Fin.ext (by show (128 * h.val + d.val) % 128 = d.val; omega)

/-! ## The window holds every key that its rows see -/

theorem atKey_inj (i : Fin 8) : Function.Injective (atKey i) := fun j j' h => Fin.ext (by
  have h' : winOff i.val + j.val = winOff i.val + j'.val := congrArg Fin.val h
  omega)
theorem seen_in_window (i : Fin 8) (r : Fin 256) (j : Fin 2048) (h : near (atRow i r).val j.val) : j ∈ Set.range (atKey i) := by
  have h' : near (256 * i.val + r.val) j.val := h
  have hw : winOff i.val = min (256 * i.val - 256) 1280 := rfl
  exact ⟨⟨j.val - winOff i.val, by omega⟩, Fin.ext (by show winOff i.val + (j.val - winOff i.val) = j.val; omega)⟩

theorem dotQK_isReal (hX : ∀ i, IsReal (X i)) (hW : ∀ i, IsReal (W i)) (hK : ∀ i, IsReal (K i)) (h : Fin 8) (r j : Fin 2048) :
    IsReal (dotQK X W K h r j) :=
  IsReal.sum _ _ fun _ => (IsReal.sum _ _ fun _ => (hX _).mul (hW _)).mul (hK _)

/-- The attention of a row over its window is that over all keys. -/
theorem mix_all (hX : ∀ i, IsReal (X i)) (hW : ∀ i, IsReal (W i)) (hK : ∀ i, IsReal (K i)) (h i : Fin 8) (r : Fin 256) (e : Fin 128) :
    mix (fun j => rowScore X W K h (atRow i r) (atKey i j)) (fun j => V (ix3 h (atKey i j) e))
      = mix (rowScore X W K h (atRow i r)) (fun j => V (ix3 h j e)) := by
  have hs : ∀ j, near (atRow i r).val j.val → IsReal (rowScore X W K h (atRow i r) j) := fun j hj => by
    unfold rowScore; rw [if_pos hj]
    exact (dotQK_isReal X W K hX hW hK h _ j).mul ofBits_scale
  have hn : ∀ j, ¬ near (atRow i r).val j.val → rowScore X W K h (atRow i r) j = ⊥ := fun j hj => if_neg hj
  refine mix_window (atKey i) (atKey_inj i) (rowScore X W K h (atRow i r)) (fun j => V (ix3 h j e))
    (fun j hj => hn j fun hj' => hj (seen_in_window i r j hj')) (fun j => ?_) (atRow i r) (hs _ ⟨by omega, by omega⟩).ne_bot
  by_cases hj : near (atRow i r).val j.val
  · exact (hs j hj).ne_top
  · rw [hn j hj]; exact bot_ne_top

end Spec

/-! ## The stores leave these -/

section Stores

variable (c : Dev nD)
  (M0 : Memref sig .tc .vmem S2048x1024 .bf16) (M1 : Memref sig .tc .vmem S1024x1024 .bf16)
  (M2 M3 : Memref sig .tc .vmem S8x2048x128 .bf16) (M4 : Memref sig .tc .vmem S1024x1024 .bf16)
  (M6 M7 : Memref sig .tc .vmem S2048x1024 .bf16)
  (f0 : Bf Ideal c M0) (f1 : Bf Ideal c M1) (f2 : Bf Ideal c M2) (f3 : Bf Ideal c M3) (f4 : Bf Ideal c M4)
  (X : FVec Ideal S2048x1024 .bf16) (W : FVec Ideal S1024x1024 .bf16) (K V : FVec Ideal S8x2048x128 .bf16)
  (O : FVec Ideal S1024x1024 .bf16)
  (e0 : M0.view.read (Elt Ideal) f0 = X) (e1 : M1.view.read (Elt Ideal) f1 = W) (e2 : M2.view.read (Elt Ideal) f2 = K)
  (e3 : M3.view.read (Elt Ideal) f3 = V) (e4 : M4.view.read (Elt Ideal) f4 = O)

include e0 e1 in
theorem canon_query : View.canon (qPieces c M0 M1 f0 f1) = query X W := by
  funext y
  refine View.canon_apply_of_pieces (Val := Elt Ideal) (e := .bf16) (query X W) _ (fun p hp x => ?_) y ?_
  · obtain ⟨i, -, rfl⟩ := List.mem_map.mp hp
    obtain ⟨r, l, rfl⟩ : ∃ r l, x = ix2 (n0 := 256) (n1 := 1024) r l := ⟨_, _, eq_ix2 x⟩
    show qPay _ _ (ix2 r l) = query X W ((rows i).emb (ix2 r l))
    rw [qPay_apply, rows_emb]
    refine Finset.sum_congr rfl fun k _ => ?_
    show M0.view.read (Elt Ideal) f0 ((rows i).emb (ix2 r k)) * M1.view.read (Elt Ideal) f1 (allOf.emb (ix2 k l)) = _
    rw [e0, e1, rows_emb, allOf_emb]; rfl
  · obtain ⟨r, l, rfl⟩ : ∃ r l, y = ix2 (n0 := 2048) (n1 := 1024) r l := ⟨_, _, eq_ix2 y⟩
    obtain ⟨i, r', rfl⟩ := atRow_surj r
    exact ⟨_, List.mem_map.mpr ⟨i, mem_reverse i, rfl⟩, rows_emb i r' l ▸ (rows i).idx_mem _⟩

include e0 e1 e2 e3 in
theorem canon_context (hX : ∀ i, IsReal (X i)) (hW : ∀ i, IsReal (W i)) (hK : ∀ i, IsReal (K i)) :
    View.canon (ctxPieces c M0 M1 M2 M3 M6 f0 f1 f2 f3) = context X W K V := by
  funext y
  refine View.canon_apply_of_pieces (Val := Elt Ideal) (e := .bf16) (context X W K V) _ (fun p hp x => ?_) y ?_
  · obtain ⟨h, -, hp⟩ := List.mem_flatMap.mp hp
    obtain ⟨i, -, rfl⟩ := List.mem_map.mp hp
    obtain ⟨r, e, rfl⟩ : ∃ r e, x = ix2 (n0 := 256) (n1 := 128) r e := ⟨_, _, eq_ix2 x⟩
    show ctxPay _ _ _ _ _ (ix2 r e) = context X W K V ((headRows h i).emb (ix2 r e))
    rw [ctxPay_apply _ _ (by omega) (by unfold winOff; omega), headRows_emb]
    show _ = mix (rowScore X W K (headOf (col h e)) (atRow i r)) (fun j => V (ix3 (headOf (col h e)) j (inHead (col h e))))
    rw [headOf_col, inHead_col, ← mix_all X W K V hX hW hK h i r e, View.readCov_eq_canon', canon_query c M0 M1 f0 f1 X W e0 e1]
    congr 1
    · funext j
      unfold score rowScore dotQK
      refine if_congr Iff.rfl (congrArg (· * scale) (Finset.sum_congr rfl fun d _ => ?_)) rfl
      show query X W ((headRows h i).emb (ix2 r d)) * M2.view.read (Elt Ideal) f2 ((win h i).emb (ix3 0 j d)) = _
      rw [e2, headRows_emb, win_emb]
    · funext j
      show M3.view.read (Elt Ideal) f3 ((win h i).emb (ix3 0 j e)) = _
      rw [e3, win_emb]
  · obtain ⟨r, l, rfl⟩ : ∃ r l, y = ix2 (n0 := 2048) (n1 := 1024) r l := ⟨_, _, eq_ix2 y⟩
    obtain ⟨i, r', rfl⟩ := atRow_surj r
    obtain ⟨h, d, rfl⟩ := col_surj l
    exact ⟨_, List.mem_flatMap.mpr ⟨h, mem_reverse h, List.mem_map.mpr ⟨i, mem_reverse i, rfl⟩⟩,
      headRows_emb h i r' d ▸ (headRows h i).idx_mem _⟩

include e0 e1 e2 e3 e4 in
theorem canon_product (hX : ∀ i, IsReal (X i)) (hW : ∀ i, IsReal (W i)) (hK : ∀ i, IsReal (K i)) :
    View.canon (outPieces c M0 M1 M2 M3 M4 M6 M7 f0 f1 f2 f3 f4) = product X W K V O := by
  funext y
  refine View.canon_apply_of_pieces (Val := Elt Ideal) (e := .f32) (product X W K V O) _ (fun p hp x => ?_) y ?_
  · obtain ⟨i, -, rfl⟩ := List.mem_map.mp hp
    obtain ⟨z, r, l, rfl⟩ : ∃ z r l, x = ix3 (n0 := 1) (n1 := 256) (n2 := 1024) z r l := ⟨_, _, _, eq_ix3 x⟩
    obtain rfl : z = 0 := Subsingleton.elim _ _
    show outPay _ _ (ix3 0 r l) = product X W K V O ((outRows i).emb (ix3 0 r l))
    rw [outPay_apply, outRows_emb, View.readCov_eq_canon', canon_context c M0 M1 M2 M3 M6 f0 f1 f2 f3 X W K V e0 e1 e2 e3 hX hW hK]
    refine Finset.sum_congr rfl fun k _ => ?_
    show context X W K V ((rows i).emb (ix2 r k)) * M4.view.read (Elt Ideal) f4 (allOf.emb (ix2 k l)) = _
    rw [e4, rows_emb, allOf_emb]; rfl
  · obtain ⟨z, r, l, rfl⟩ : ∃ z r l, y = ix3 (n0 := 1) (n1 := 2048) (n2 := 1024) z r l := ⟨_, _, _, eq_ix3 y⟩
    obtain rfl : z = 0 := Subsingleton.elim _ _
    obtain ⟨i, r', rfl⟩ := atRow_surj r
    exact ⟨_, List.mem_map.mpr ⟨i, mem_reverse i, rfl⟩, outRows_emb i r' l ▸ (outRows i).idx_mem _⟩

end Stores

end Cert.KernelIdeal.Hand

end
-- ==== Proof.Staged.lean ====
module

public import proofs.«01_k».proof.Proof.Own
public import proofs.«01_k».proof.Proof.Region
public import Idealize.ShloMosaic.Lib.StableHlo.ReadAt
public import Idealize.ShloMosaic.Lib.DynamicIndex
public import Idealize.ShloMosaic.Lib.Tactic.WordOmega

@[expose] public section

/-! # What the program's own operations stage for a device, in terms of its arguments -/

noncomputable section

namespace Cert.KernelIdeal.Hand

open Cert.KernelIdeal Cert.KernelIdeal.Gen Cert.Value
open Idealize.ShloMosaic
open Idealize.ShloMosaic.TcCoe

variable (m : (ℓ : Loc nD τ sig) → Buf (Elt Ideal) ℓ) (c : Dev nD)

/-- Column (or row) `l` of device `c`'s share of 4096. -/
def ofDev (c : Dev nD) (l : Fin 1024) : Fin 4096 := ⟨1024 * c.val + l.val, by have : c.val < 4 := c.isLt; omega⟩

abbrev argX : FVec Ideal S1x2048x1024 .bf16 := m ((c.tc : Thread nD τ).loc main_arg0)
abbrev argW : FVec Ideal S1024x4096 .bf16 := m ((c.tc : Thread nD τ).loc main_arg1)
abbrev argK : FVec Ideal S1x2048x8x128 .bf16 := m ((c.tc : Thread nD τ).loc main_arg2)
abbrev argV : FVec Ideal S1x2048x8x128 .bf16 := m ((c.tc : Thread nD τ).loc main_arg3)
abbrev argO : FVec Ideal S4096x1024 .bf16 := m ((c.tc : Thread nD τ).loc main_arg4)

/-! ## A window is its whole array -/

theorem stg0_eq : stg0 m c = V1 m c (Proc.devRef .tc main_v5) := by
  funext i; refine congrArg (V1 m c (Proc.devRef .tc main_v5)) (funext fun a => Fin.ext ?_)
  fin_cases a <;> exact (Nat.zero_add _).trans (Nat.one_mul _)
theorem stg1_eq : stg1 m c = V1 m c (Proc.devRef .tc main_v10) := by
  funext i; refine congrArg (V1 m c (Proc.devRef .tc main_v10)) (funext fun a => Fin.ext ?_)
  fin_cases a <;> exact (Nat.zero_add _).trans (Nat.one_mul _)
theorem stg2_eq : stg2 m c = V1 m c (Proc.devRef .tc main_v17) := by
  funext i; refine congrArg (V1 m c (Proc.devRef .tc main_v17)) (funext fun a => Fin.ext ?_)
  fin_cases a <;> exact (Nat.zero_add _).trans (Nat.one_mul _)
theorem stg3_eq : stg3 m c = V1 m c (Proc.devRef .tc main_v19) := by
  funext i; refine congrArg (V1 m c (Proc.devRef .tc main_v19)) (funext fun a => Fin.ext ?_)
  fin_cases a <;> exact (Nat.zero_add _).trans (Nat.one_mul _)
theorem stg4_eq : stg4 m c = V1 m c (Proc.devRef .tc main_v15) := by
  funext i; refine congrArg (V1 m c (Proc.devRef .tc main_v15)) (funext fun a => Fin.ext ?_)
  fin_cases a <;> exact (Nat.zero_add _).trans (Nat.one_mul _)

/-! ## The slices' starts -/

theorem start_w : (StableHlo.upto (hostOps0 c) (V0 m c) 15 (Proc.devRef .tc main_v9) : IVec S_ 32) = fun _ => BitVec.ofNat 32 (1024 * c.val) := by
  after_reads_simp
  funext i
  simp only [id]
  pointwise
  fin_cases c <;> decide
theorem start_o : (StableHlo.upto (hostOps0 c) (V0 m c) 24 (Proc.devRef .tc main_v14) : IVec S_ 32) = fun _ => BitVec.ofNat 32 (1024 * c.val) := by
  after_reads_simp
  funext i
  simp only [id]
  pointwise
  fin_cases c <;> decide
theorem zero_w : (StableHlo.upto (hostOps0 c) (V0 m c) 15 (Proc.devRef .tc main_c_4) : IVec S_ 32) = fun _ => 0#32 := by
  after_reads_simp; rfl
theorem zero_o : (StableHlo.upto (hostOps0 c) (V0 m c) 24 (Proc.devRef .tc main_c_8) : IVec S_ 32) = fun _ => 0#32 := by
  after_reads_simp; rfl
theorem toInt_start (c : Dev nD) : (BitVec.ofNat 32 (1024 * c.val)).toInt = ((1024 * c.val : ℕ) : ℤ) :=
  toInt_ofNat_of_lt (by have : c.val < 4 := c.isLt; omega)

/-! ## The staged arrays at an index -/

theorem staged_x (r : Fin 2048) (k : Fin 1024) : stg0 m c (ix2 r k) = argX m c (ix3 0 r k) := by
  rw [stg0_eq]
  after_reads_at

theorem staged_w (k l : Fin 1024) : stg1 m c (ix2 k l) = argW m c (ix2 k (ofDev c l)) := by
  rw [stg1_eq]
  after_reads_at
  refine congrArg (argW m c) (funext fun a => Fin.ext ?_)
  fin_cases a
  · refine congrArg (· + k.val) (Host.clampedStart_of_le _ _ 0 0 ?_ (by decide)) |>.trans (Nat.zero_add _)
    exact congrArg BitVec.toInt (congrFun (zero_w m c) _)
  · refine congrArg (· + l.val) (Host.clampedStart_of_le _ _ 1 (1024 * c.val) ?_ ?_)
    · exact (congrArg BitVec.toInt (congrFun (start_w m c) _)).trans (toInt_start c)
    · show 1024 * c.val + 1024 ≤ 4096
      have : c.val < 4 := c.isLt
      omega

theorem staged_k (h : Fin 8) (j : Fin 2048) (d : Fin 128) : stg2 m c (ix3 h j d) = argK m c (ix4 0 j h d) := by
  rw [stg2_eq]
  after_reads_at

theorem staged_v (h : Fin 8) (j : Fin 2048) (d : Fin 128) : stg3 m c (ix3 h j d) = argV m c (ix4 0 j h d) := by
  rw [stg3_eq]
  after_reads_at

theorem staged_o (l n : Fin 1024) : stg4 m c (ix2 l n) = argO m c (ix2 (ofDev c l) n) := by
  rw [stg4_eq]
  after_reads_at
  refine congrArg (argO m c) (funext fun a => Fin.ext ?_)
  fin_cases a
  · refine congrArg (· + l.val) (Host.clampedStart_of_le _ _ 0 (1024 * c.val) ?_ ?_)
    · exact (congrArg BitVec.toInt (congrFun (start_o m c) _)).trans (toInt_start c)
    · show 1024 * c.val + 1024 ≤ 4096
      have : c.val < 4 := c.isLt
      omega
  · refine congrArg (· + n.val) (Host.clampedStart_of_le _ _ 1 0 ?_ (by decide)) |>.trans (Nat.zero_add _)
    exact congrArg BitVec.toInt (congrFun (zero_o m c) _)

end Cert.KernelIdeal.Hand

end
-- ==== Proof.RingSum.lean ====
module

public import proofs.«01_k».proof.Proof.Region
public import Idealize.ShloMosaic.PureOps.Ideal

@[expose] public section

/-! # The two rings add: over the extended reals every device ends with the sum of all devices' rows -/

noncomputable section

namespace Cert.KernelIdeal.Hand

open Cert.KernelIdeal Cert.KernelIdeal.Gen
open Idealize.ShloMosaic

variable (P : Blocks Ideal)

/-- The sum over the devices of their row blocks. -/
def total (d : Bool) (q : Dev nD) : FVec Ideal S1x256x1024 .f32 := fun i => ∑ c : Dev nD, P c d q i

theorem chunk_inj : ∀ (d : Bool) (c : Dev nD), Function.Injective (fun j : Fin 4 => chunk d j.val c) := by decide
/-- The four steps of a ring meet every device once. -/
theorem sum_devs (d : Bool) (c : Dev nD) (f : Dev nD → EReal) :
    f (chunk d 0 c) + f (chunk d 1 c) + f (chunk d 2 c) + f (chunk d 3 c) = ∑ c' : Dev nD, f c' := by
  rw [← (Finite.injective_iff_bijective.mp (chunk_inj d c)).sum_comp f]
  exact (Fin.sum_univ_four fun j : Fin 4 => f (chunk d j.val c)).symm

theorem flat_row (r : FVec Ideal S1x256x1024 .f32) (i : S1x256x1024.Idx) :
    shapeCast S1x256x1024 (shapeCast S256x1024 r shapeCasts_S1x256x1024_S256x1024) shapeCasts_S256x1024_S1x256x1024 i = r i :=
  congrFun (shapeCast_shapeCast _ _ _) i

theorem chunk_back (d : Bool) (k : ℕ) (c : Dev nD) : chunk d k (nb (!d) c) = chunk d (k + 1) c := by
  induction k with
  | zero => rfl
  | succ k ih => show nb (!d) (chunk d k (nb (!d) c)) = nb (!d) (chunk d (k + 1) c); rw [ih]
theorem chunk_four (d : Bool) (c : Dev nD) : chunk d 4 c = c := by revert d c; decide

/-- What is sent in the fourth exchange is the finished sum. -/
theorem ext_sent (d : Bool) (c : Dev nD) : extF (sentN P d 3 c) = total P d (chunk d 3 c) := by
  funext i
  unfold total
  rw [← sum_devs d c]
  show shapeCast S1x256x1024 (shapeCast S256x1024 (P (chunk d 3 c) d (chunk d 3 c)) shapeCasts_S1x256x1024_S256x1024) shapeCasts_S256x1024_S1x256x1024 i
    + shapeCast S1x256x1024 (shapeCast S256x1024 (P (chunk d 2 c) d (chunk d 3 c)) shapeCasts_S1x256x1024_S256x1024) shapeCasts_S256x1024_S1x256x1024 i
    + shapeCast S1x256x1024 (shapeCast S256x1024 (P (chunk d 1 c) d (chunk d 3 c)) shapeCasts_S1x256x1024_S256x1024) shapeCasts_S256x1024_S1x256x1024 i
    + shapeCast S1x256x1024 (shapeCast S256x1024 (P (chunk d 0 c) d (chunk d 3 c)) shapeCasts_S1x256x1024_S256x1024) shapeCasts_S256x1024_S1x256x1024 i = _
  simp only [flat_row]
  abel
theorem fin_sent (d : Bool) (c : Dev nD) : accF (sentN P d 2 (nb (!d) c)) (P c d (chunk d 3 c)) = total P d (chunk d 3 c) :=
  ext_sent P d c
theorem sent_0 (d : Bool) (c : Dev nD) : extF (sent P d 3 (nb (!d) c)) = total P d (chunk d 0 c) := by
  unfold sent; rw [show ((3 : Fin 6).val) = 3 from rfl, ext_sent, chunk_back, chunk_four]; rfl
theorem sent_1 (d : Bool) (c : Dev nD) : extF (sent P d 4 (nb (!d) c)) = total P d (chunk d 1 c) := sent_0 P d (nb (!d) c)
theorem sent_2 (d : Bool) (c : Dev nD) : extF (sent P d 5 (nb (!d) c)) = total P d (chunk d 2 c) := sent_1 P d (nb (!d) c)

theorem chunk_cases (d : Bool) (c q : Dev nD) : q = chunk d 0 c ∨ q = chunk d 1 c ∨ q = chunk d 2 c ∨ q = chunk d 3 c := by
  revert d c q; decide

/-- Rows set to a value that they share are that value. -/
theorem setRow_total (d' : Bool) (q' : Dev nD) (R : Rows Ideal) (d : Bool) (q : Dev nD)
    (h : (d = d' ∧ q = q') ∨ R d q = total P d q) : setRow d' q' (total P d' q') R d q = total P d q := by
  unfold setRow
  by_cases hd : d = d' ∧ q = q'
  · obtain ⟨rfl, rfl⟩ := hd; rw [if_pos ⟨rfl, rfl⟩]
  · rw [if_neg hd]; exact h.resolve_left hd

/-- At the end every device's rows are the sums over the devices. -/
theorem endRows_total (c : Dev nD) : endRows P c = total P := by
  funext d q
  unfold endRows
  rw [show accF (sent P true 2 (nb false c)) (P c true (chunk true 3 c)) = _ from fin_sent P true c,
    show accF (sent P false 2 (nb true c)) (P c false (chunk false 3 c)) = _ from fin_sent P false c,
    show extF (sent P true 3 (nb false c)) = _ from sent_0 P true c, show extF (sent P false 3 (nb true c)) = _ from sent_0 P false c,
    show extF (sent P true 4 (nb false c)) = _ from sent_1 P true c, show extF (sent P false 4 (nb true c)) = _ from sent_1 P false c,
    show extF (sent P true 5 (nb false c)) = _ from sent_2 P true c, show extF (sent P false 5 (nb true c)) = _ from sent_2 P false c]
  have h := chunk_cases d c q
  cases d <;> rcases h with h | h | h | h <;> subst h <;>
    repeat first
      | exact setRow_total P _ _ _ _ _ (Or.inl ⟨rfl, rfl⟩)
      | refine setRow_total P _ _ _ _ _ (Or.inr ?_)

end Cert.KernelIdeal.Hand

end
-- ==== Proof.Finite.lean ====
module

public import proofs.«01_k».proof.Pre_scores_finite_KernelIdeal
public import proofs.«01_k».proof.Pre_scores_finite_ReferenceIdeal
public import proofs.«01_k».proof.Proof.Attn
public import proofs.«01_k».proof.Proof.Near
public import Idealize.ShloMosaic.Lib.ReduceAll
public import Idealize.ShloMosaic.Lib.Pointwise

@[expose] public section

/-! # The precondition, read

Where `scores_finite` holds of a device's arguments, every entry of the activations, of the query weights and of the
keys is a real number. -/

noncomputable section

instance Cert.Pre_scores_finite_KernelIdeal.facts : Cert.Pre_scores_finite_KernelIdeal.Facts := by
  constructor <;> decide

instance Cert.Pre_scores_finite_ReferenceIdeal.facts : Cert.Pre_scores_finite_ReferenceIdeal.Facts := by
  constructor <;> decide

namespace Cert.Value

open Idealize.ShloMosaic Cert.Pre_scores_finite_KernelIdeal

theorem and_one (a b : BitVec 1) (h : a &&& b = 1#1) : a = 1#1 ∧ b = 1#1 := by
  revert a b; decide

/-- One comparison of the precondition. -/
theorem isReal_of_cmp {s : Shape} (x : FVec Ideal s .bf16) (i : s.Idx) (h : S_.BroadcastsInDim s (![] : Fin 0 → Fin s.rank))
    (e : cmpf .olt (Host.absf x) (broadcastInDim s ![] h (constant S_ .bf16 0x7F80#16)) i = 1#1) : IsReal (x i) := by
  pointwise at e
  have e' : FloatOps.absf (x i) < Ideal.ofBits .bf16 0x7F80#16 := by
    by_contra hn
    rw [decide_eq_false hn] at e
    exact absurd e (by decide)
  rw [ofBits_high] at e'
  exact isReal_of_abs_lt e'

theorem finite_of_pre (x : FVec Ideal S1x2048x1024 .bf16) (wq : FVec Ideal S1024x4096 .bf16) (k v : FVec Ideal S1x2048x8x128 .bf16)
    (wo : FVec Ideal S4096x1024 .bf16) (h : fn x wq k v wo = fun _ => 1#1) :
    (∀ i, IsReal (x i)) ∧ (∀ i, IsReal (wq i)) ∧ ∀ i, IsReal (k i) := by
  have h0 := congrFun h (Shape.Idx.first (s := S_) Facts.h_S_)
  dsimp only [fn] at h0
  obtain ⟨h1, hk⟩ := and_one _ _ h0
  obtain ⟨hx, hw⟩ := and_one _ _ h1
  haveI : Subsingleton S_.Idx := ⟨fun a b => funext fun k => k.elim0⟩
  exact ⟨fun i => isReal_of_cmp x i _ (Host.reduce_andi_all _ _ _ _ _ hx i), fun i => isReal_of_cmp wq i _ (Host.reduce_andi_all _ _ _ _ _ hw i),
    fun i => isReal_of_cmp k i _ (Host.reduce_andi_all _ _ _ _ _ hk i)⟩

end Cert.Value

end
-- ==== Proof.Out.lean ====
module

public import proofs.«01_k».proof.Proof.Staged
public import proofs.«01_k».proof.Proof.RingSum
public import proofs.«01_k».proof.Proof.Talk
public import proofs.«01_k».proof.Proof.Finite
public import Idealize.ShloMosaic.Lib.Pipeline.ValueKit

@[expose] public section

/-! # The call's output, over the extended reals

On every device it is the sum over the devices of their products. -/

noncomputable section

namespace Cert.KernelIdeal.Hand

open Cert.KernelIdeal Cert.KernelIdeal.Gen Cert.Value
open Idealize.ShloMosaic
open Idealize.ShloMosaic.TcCoe

variable (m : (ℓ : Loc nD τ sig) → Buf (Elt Ideal) ℓ)

/-- The output's array ends as the body leaves its staging buffer. -/
theorem outA_eq (c : Dev nD) : outA m c = outAt m c := by
  funext i
  refine ((dat0 m c).arrAt_emb_eq_after_last 5 t0_0 (by decide +kernel) i).trans ?_
  rfl

/-- Every argument that the scores are made of holds real numbers only. -/
def Finite : Prop := ∀ c : Dev nD, (∀ i, IsReal (argX m c i)) ∧ (∀ i, IsReal (argW m c i)) ∧ ∀ i, IsReal (argK m c i)

variable {m} in
theorem Finite.staged_x (h : Finite m) (c : Dev nD) (i : S2048x1024.Idx) : IsReal (stg0 m c i) := by
  obtain ⟨r, l, rfl⟩ : ∃ r l, i = ix2 (n0 := 2048) (n1 := 1024) r l := ⟨_, _, eq_ix2 i⟩
  rw [Hand.staged_x]; exact (h c).1 _
variable {m} in
theorem Finite.staged_w (h : Finite m) (c : Dev nD) (i : S1024x1024.Idx) : IsReal (stg1 m c i) := by
  obtain ⟨r, l, rfl⟩ : ∃ r l, i = ix2 (n0 := 1024) (n1 := 1024) r l := ⟨_, _, eq_ix2 i⟩
  rw [Hand.staged_w]; exact (h c).2.1 _
variable {m} in
theorem Finite.staged_k (h : Finite m) (c : Dev nD) (i : S8x2048x128.Idx) : IsReal (stg2 m c i) := by
  obtain ⟨a, r, l, rfl⟩ : ∃ a r l, i = ix3 (n0 := 8) (n1 := 2048) (n2 := 128) a r l := ⟨_, _, _, eq_ix3 i⟩
  rw [Hand.staged_k]; exact (h c).2.2 _

/-- A device's own row blocks are those of its product. -/
theorem blocks_eq (hf : Finite m) (c : Dev nD) (d : Bool) (q : Dev nD) (x : S1x256x1024.Idx) :
    blocks m c d q x = product (stg0 m c) (stg1 m c) (stg2 m c) (stg3 m c) (stg4 m c) ((rowRect d q).emb x) := by
  unfold blocks ownRows
  rw [product_stores, canon_product c _ _ _ _ _ _ _ _ _ _ _ _ (stg0 m c) (stg1 m c) (stg2 m c) (stg3 m c) (stg4 m c) (View.read_whole ..) (View.read_whole ..)
    (View.read_whole ..) (View.read_whole ..) (View.read_whole ..) (hf.staged_x c) (hf.staged_w c) (hf.staged_k c)]
  rfl

theorem out_apply (hf : Finite m) (c : Dev nD) (i : S1x2048x1024.Idx) :
    outA m c i = ∑ c' : Dev nD, product (stg0 m c') (stg1 m c') (stg2 m c') (stg3 m c') (stg4 m c') i := by
  rw [outA_eq]
  unfold outAt
  rw [endRows_total]
  show ∑ c' : Dev nD, blocks m c' (half i) (quarter i) (inRow i) = _
  exact Finset.sum_congr rfl fun c' _ => (blocks_eq m hf c' _ _ _).trans (congrArg _ (emb_inRow i))

end Cert.KernelIdeal.Hand

end
-- ==== Proof.Refer.lean ====
module

public import proofs.«01_k».proof.Proof.Gen.ReferenceIdeal.Run
public import proofs.«01_k».proof.Proof.Attn
public import proofs.«01_k».proof.Proof.Near
public import Idealize.ShloMosaic.Lib.Pointwise
public import Idealize.ShloMosaic.Lib.Tactic.CleanTypes
public import Idealize.ShloMosaic.Lib.Routing.OpsOrder

@[expose] public section

/-! # The reference's result at an index, over the extended reals

Entry `(0, r, n)` is the sum over the 4096 columns `D` of the context (head `D / 128`, column `D % 128` in it) of the
attention of row `r` under that head, times the output weight. -/

noncomputable section

namespace Cert.ReferenceIdeal.Value

open Cert.ReferenceIdeal Cert.ReferenceIdeal.Gen Cert.Value
open Idealize.ShloMosaic
open Idealize.ShloMosaic.TcCoe

/-! ## The mask's bits -/

/-- The mask's bit at a row and a key. -/
theorem near_bit (r j : Fin 2048) :
    IntOp.cmpi .sle (IntOp.absi (IntOp.subi (BitVec.ofNat 32 r.val) (BitVec.ofNat 32 j.val))) 128#32 = if near r.val j.val then 1#1 else 0#1 :=
  near_word _ _ (by omega) (by omega)

/-- Every row sees a key: itself. -/
theorem row_seen (r : Fin 2048) : Finset.fold IntOp.ori (0#1) (fun j : Fin 2048 => if near r.val j.val then 1#1 else 0#1) Finset.univ = 1#1 :=
  (Routing.fold_ori _ _).mpr ⟨r, Finset.mem_univ r, if_pos ⟨by omega, by omega⟩⟩

theorem select_one {α : Type} (a b : α) : Scalar.select 1#1 a b = a := if_pos rfl
theorem select_bit {α : Type} (p : Prop) [Decidable p] (a b : α) : Scalar.select (if p then 1#1 else 0#1) a b = if p then a else b := by
  by_cases h : p
  · rw [if_pos h, if_pos h]; exact if_pos rfl
  · rw [if_neg h, if_neg h]; exact if_neg (by decide)

/-! ## The result -/

variable (x : FVec Ideal S1x2048x1024 .bf16) (wq : FVec Ideal S1024x4096 .bf16) (k v : FVec Ideal S1x2048x32x128 .bf16)
  (wo : FVec Ideal S4096x1024 .bf16)

/-- Head and column within it of one of the 4096 columns, and back. -/
def headR (D : Fin 4096) : Fin 32 := ⟨D.val / 128, by omega⟩
def inHeadR (D : Fin 4096) : Fin 128 := ⟨D.val % 128, by omega⟩
def colR (h : Fin 32) (d : Fin 128) : Fin 4096 := ⟨h.val * 128 + d.val, by omega⟩

/-- The masked score of row `r` and key `j` under head `h`. -/
def scoreR (h : Fin 32) (r j : Fin 2048) : EReal :=
  if near r.val j.val then (∑ d : Fin 128, (∑ i : Fin 1024, x (ix3 0 r i) * wq (ix2 i (colR h d))) * k (ix4 0 j h d)) * scale else ⊥

/-- The whole answer. -/
def answer : FVec Ideal S1x2048x1024 .f32 := fun i =>
  ∑ D : Fin 4096, mix (scoreR x wq k (headR D) (i 1)) (fun j => v (ix4 0 j (headR D) (inHeadR D))) * wo (ix2 D (i 2))

/-! ## The reference's steps -/

/-- The mask, and which rows see a key at all. -/
def bandStep : IVec S2048x2048 1 :=
  cmpi .sle (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))
def keepStep : IVec S1x1x2048x1 1 :=
  broadcastInDim S1x1x2048x1 ![2] bcast_S2048_S1x1x2048x1_2 (Host.reduce IntOp.ori bandStep (constantI S_ 1 0#1) reducesTo_S2048x2048_S2048_d1 h_S_)

/-- The masked scores, from the projected queries. -/
def queryStep (x : FVec Ideal S1x2048x1024 .bf16) (wq : FVec Ideal S1024x4096 .bf16) : FVec Ideal S1x2048x32x128 .f32 :=
  shapeCast _ (Host.dotGeneral dot_S1x2048x1024_S1024x4096_S1x2048x4096_2_0_01_1_n_n none (extf .f32 x bitsLt_bf16_f32) (extf .f32 wq bitsLt_bf16_f32)) shapeCasts_S1x2048x4096_S1x2048x32x128
def scoreStep (q : FVec Ideal S1x2048x32x128 .f32) (k : FVec Ideal S1x2048x32x128 .bf16) : FVec Ideal S1x32x2048x2048 .f32 :=
  select (broadcastInDim S1x32x2048x2048 ![0, 1, 2, 3] bcast_S1x1x2048x2048_S1x32x2048x2048_0_1_2_3 (broadcastInDim S1x1x2048x2048 ![2, 3] bcast_S2048x2048_S1x1x2048x2048_2_3 bandStep))
    (mulf (Host.dotGeneral dot_S1x2048x32x128_S1x2048x32x128_S1x32x2048x2048_3_3_1_1_02_02 none q (extf .f32 k bitsLt_bf16_f32)) (broadcastInDim S1x32x2048x2048 ![] bcast_S_S1x32x2048x2048 (constant S_ .f32 0x3DB504F3#32)))
    (broadcastInDim S1x32x2048x2048 ![] bcast_S_S1x32x2048x2048 (id (constant S_ .f32 0xFF800000#32)))

/-- The weights before they are divided, their sums, and the weights. -/
def expStep (s : FVec Ideal S1x32x2048x2048 .f32) : FVec Ideal S1x32x2048x2048 .f32 :=
  Host.exp (subf s (broadcastInDim S1x32x2048x2048 ![0, 1, 2, 3] bcast_S1x32x2048x1_S1x32x2048x2048_0_1_2_3 (broadcastInDim S1x32x2048x1 ![0, 1, 2] bcast_S1x32x2048_S1x32x2048x1_0_1_2
    (Host.reduce FloatOps.maximumf s (constant S_ .f32 0xFF800000#32) reducesTo_S1x32x2048x2048_S1x32x2048_d3 h_S_))))
def sumStep (e : FVec Ideal S1x32x2048x2048 .f32) : FVec Ideal S1x32x2048x1 .f32 :=
  select (broadcastInDim S1x32x2048x1 ![0, 1, 2, 3] bcast_S1x1x2048x1_S1x32x2048x1_0_1_2_3 keepStep)
    (broadcastInDim S1x32x2048x1 ![0, 1, 2] bcast_S1x32x2048_S1x32x2048x1_0_1_2 (Host.reduceAdd e (constant S_ .f32 0x00000000#32) reducesTo_S1x32x2048x2048_S1x32x2048_d3 h_S_))
    (broadcastInDim S1x32x2048x1 ![] bcast_S_S1x32x2048x1 (id (constant S_ .f32 0x3F800000#32)))
def weightStep (e : FVec Ideal S1x32x2048x2048 .f32) (d : FVec Ideal S1x32x2048x1 .f32) : FVec Ideal S1x32x2048x2048 .f32 :=
  select (broadcastInDim S1x32x2048x2048 ![0, 1, 2, 3] bcast_S1x1x2048x1_S1x32x2048x2048_0_1_2_3 keepStep)
    (Host.divf e (broadcastInDim S1x32x2048x2048 ![0, 1, 2, 3] bcast_S1x32x2048x1_S1x32x2048x2048_0_1_2_3 d))
    (broadcastInDim S1x32x2048x2048 ![] bcast_S_S1x32x2048x2048 (id (constant S_ .f32 0x00000000#32)))

/-- The context, and the result. -/
def contextStep (v : FVec Ideal S1x2048x32x128 .bf16) (w : FVec Ideal S1x32x2048x2048 .f32) : FVec Ideal S1x2048x4096 .f32 :=
  shapeCast _ (transpose S1x2048x32x128 [0, 3, 1, 2] (Host.dotGeneral dot_S1x2048x32x128_S1x32x2048x2048_S1x32x128x2048_1_3_3_2_02_01 none (extf .f32 v bitsLt_bf16_f32) w)
    transposes_S1x32x128x2048_S1x2048x32x128_0_3_1_2) shapeCasts_S1x2048x32x128_S1x2048x4096
def resultStep (a : FVec Ideal S1x2048x4096 .f32) (wo : FVec Ideal S4096x1024 .bf16) : FVec Ideal S1x2048x1024 .f32 :=
  Host.dotGeneral dot_S1x2048x4096_S4096x1024_S1x2048x1024_2_0_01_1_n_n none a (extf .f32 wo bitsLt_bf16_f32)

/-! ## The steps at an index -/

theorem bandStep_apply (r j : Fin 2048) : bandStep (ix2 r j) = if near r.val j.val then 1#1 else 0#1 := by
  unfold bandStep; pointwise; exact near_bit r j

theorem keepStep_apply (r : Fin 2048) : keepStep (ix4 0 0 r 0) = 1#1 := by
  unfold keepStep; pointwise
  simp only [bandStep_apply]; exact row_seen r

theorem queryStep_apply (r : Fin 2048) (h : Fin 32) (d : Fin 128) :
    queryStep x wq (ix4 0 r h d) = ∑ i : Fin 1024, x (ix3 0 r i) * wq (ix2 i (colR h d)) := by
  unfold queryStep; pointwise; rfl

theorem scoreStep_apply (h : Fin 32) (r j : Fin 2048) : scoreStep (queryStep x wq) k (ix4 0 h r j) = scoreR x wq k h r j := by
  unfold scoreStep; pointwise
  simp only [bandStep_apply, select_bit, queryStep_apply]
  unfold scoreR
  exact if_congr Iff.rfl rfl ofBits_low

theorem expStep_apply (s : FVec Ideal S1x32x2048x2048 .f32) (h : Fin 32) (r j : Fin 2048) :
    expStep s (ix4 0 h r j) = wt (fun j => s (ix4 0 h r j)) j := by
  unfold expStep wt top; pointwise
  rw [ofBits_low]

theorem sumStep_apply (e : FVec Ideal S1x32x2048x2048 .f32) (h : Fin 32) (r : Fin 2048) :
    sumStep e (ix4 0 h r 0) = ∑ j : Fin 2048, e (ix4 0 h r j) := by
  unfold sumStep; pointwise
  rw [keepStep_apply, select_one]

theorem weightStep_apply (e : FVec Ideal S1x32x2048x2048 .f32) (d : FVec Ideal S1x32x2048x1 .f32) (h : Fin 32) (r j : Fin 2048) :
    weightStep e d (ix4 0 h r j) = Ideal.div (e (ix4 0 h r j)) (d (ix4 0 h r 0)) := by
  unfold weightStep; pointwise
  rw [keepStep_apply, select_one]

theorem contextStep_apply (w : FVec Ideal S1x32x2048x2048 .f32) (r : Fin 2048) (D : Fin 4096) :
    contextStep v w (ix3 0 r D) = ∑ j : Fin 2048, w (ix4 0 (headR D) r j) * v (ix4 0 j (headR D) (inHeadR D)) := by
  unfold contextStep; pointwise
  exact Finset.sum_congr rfl fun j _ => mul_comm _ _

theorem resultStep_apply (a : FVec Ideal S1x2048x4096 .f32) (r : Fin 2048) (n : Fin 1024) :
    resultStep a wo (ix3 0 r n) = ∑ D : Fin 4096, a (ix3 0 r D) * wo (ix2 D n) := by
  unfold resultStep; pointwise

/-- The steps in order. -/
def steps : FVec Ideal S1x2048x1024 .f32 :=
  resultStep (contextStep v (weightStep (expStep (scoreStep (queryStep x wq) k)) (sumStep (expStep (scoreStep (queryStep x wq) k))))) wo

theorem steps_eq : steps x wq k v wo = answer x wq k v wo := by
  funext i
  obtain ⟨z, r, n, rfl⟩ : ∃ z r n, i = ix3 (n0 := 1) (n1 := 2048) (n2 := 1024) z r n := ⟨_, _, _, eq_ix3 i⟩
  obtain rfl : z = 0 := Subsingleton.elim _ _
  unfold steps
  rw [resultStep_apply]
  refine Finset.sum_congr rfl fun D _ => congrArg (· * _) ?_
  rw [contextStep_apply]
  unfold mix
  refine Finset.sum_congr rfl fun j _ => ?_
  rw [weightStep_apply, sumStep_apply]
  simp only [expStep_apply, scoreStep_apply]
  rfl

set_option maxRecDepth 8192 in
theorem res_eq (m : (ℓ : Loc nD τ sig) → Buf (Elt Ideal) ℓ) (c : Dev nD) :
    res_main_v39 m c = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [← steps_eq]
  rfl

end Cert.ReferenceIdeal.Value

end
-- ==== Proof.Agree.lean ====
module

public import proofs.«01_k».proof.Proof.Out
public import proofs.«01_k».proof.Proof.Refer
public import Idealize.ShloMosaic.Lib.Layout

@[expose] public section

/-! # The kernel's sum over the devices is the reference's answer

Column `l` of device `c`'s context is column `1024 c + l` of the reference's: its head is `8 c + l / 128`, whose keys and
values device `c` holds. -/

noncomputable section

namespace Cert.KernelIdeal.Hand

open Cert.KernelIdeal Cert.KernelIdeal.Gen Cert.Value Cert.ReferenceIdeal.Value
open Idealize.ShloMosaic
open Idealize.ShloMosaic.TcCoe

/-- A sum over 4096 by devices. -/
theorem sum_shares (f : Fin 4096 → EReal) : ∑ D : Fin 4096, f D = ∑ c : Dev nD, ∑ l : Fin 1024, f (ofDev c l) := by
  rw [← Fintype.sum_prod_type' (f := fun c l => f (ofDev c l))]
  refine (Function.Bijective.sum_comp (e := fun p : Dev nD × Fin 1024 => ofDev p.1 p.2) ⟨fun p p' h => ?_, fun D => ?_⟩ f).symm
  · have h' : 1024 * p.1.val + p.2.val = 1024 * p'.1.val + p'.2.val := congrArg Fin.val h
    exact Prod.ext (Fin.ext (by omega)) (Fin.ext (by omega))
  · have hD : D.val < 4096 := D.isLt
    exact ⟨(⟨D.val / 1024, by show _ < 4; omega⟩, ⟨D.val % 1024, by omega⟩), Fin.ext (by show 1024 * (D.val / 1024) + D.val % 1024 = D.val; omega)⟩

theorem inHeadR_ofDev (c : Dev nD) (l : Fin 1024) : inHeadR (ofDev c l) = inHead l :=
  Fin.ext (by show (1024 * c.val + l.val) % 128 = l.val % 128; omega)
theorem colR_ofDev (c : Dev nD) (l : Fin 1024) (d : Fin 128) : colR (headR (ofDev c l)) d = ofDev c (col (headOf l) d) :=
  Fin.ext (by show (1024 * c.val + l.val) / 128 * 128 + d.val = 1024 * c.val + (128 * (l.val / 128) + d.val); omega)

variable (m : (ℓ : Loc nD τ sig) → Buf (Elt Ideal) ℓ)
  (x : FVec Ideal S1x2048x1024 .bf16) (wq : FVec Ideal S1024x4096 .bf16) (k v : FVec Ideal ⟨4, ![1, 2048, 32, 128]⟩ .bf16)
  (wo : FVec Ideal S4096x1024 .bf16)

/-- A device's block of the keys, or of the values, at its own head. -/
theorem block_head (a : FVec Ideal ⟨4, ![1, 2048, 32, 128]⟩ .bf16) (c : Dev nD) (l : Fin 1024) (j : Fin 2048) (d : Fin 128) :
    Layout.block ⟨4, ![1, 2048, 8, 128]⟩ ⟨4, ![1, 2048, 32, 128]⟩ 2 4 c a (by decide) (ix4 0 j (headOf l) d) = a (ix4 0 j (headR (ofDev c l)) d) := by
  refine congrArg a (funext fun b => Fin.ext ?_)
  fin_cases b
  · rfl
  · rfl
  · show c.val * 8 + l.val / 128 = (1024 * c.val + l.val) / 128; omega
  · rfl

variable (hx : ∀ c : Dev nD, argX m c = x) (hw : ∀ c : Dev nD, argW m c = wq)
  (hk : ∀ c : Dev nD, argK m c = Layout.block ⟨4, ![1, 2048, 8, 128]⟩ ⟨4, ![1, 2048, 32, 128]⟩ 2 4 c k)
  (hv : ∀ c : Dev nD, argV m c = Layout.block ⟨4, ![1, 2048, 8, 128]⟩ ⟨4, ![1, 2048, 32, 128]⟩ 2 4 c v)
  (ho : ∀ c : Dev nD, argO m c = wo)

include hx hw hk in
theorem score_agrees (c : Dev nD) (l : Fin 1024) (r j : Fin 2048) :
    rowScore (stg0 m c) (stg1 m c) (stg2 m c) (headOf l) r j = scoreR x wq k (headR (ofDev c l)) r j := by
  unfold rowScore scoreR dotQK query
  refine if_congr Iff.rfl (congrArg (· * scale) (Finset.sum_congr rfl fun d _ => ?_)) rfl
  rw [staged_k, hk, block_head, colR_ofDev]
  refine congrArg (· * k (ix4 0 j (headR (ofDev c l)) d)) (Finset.sum_congr rfl fun i _ => ?_)
  show stg0 m c (ix2 r i) * stg1 m c (ix2 i (col (headOf l) d)) = _
  rw [staged_x, staged_w, hx, hw]

include hx hw hk hv ho in
theorem term_agrees (c : Dev nD) (l : Fin 1024) (r : Fin 2048) (n : Fin 1024) :
    mix (rowScore (stg0 m c) (stg1 m c) (stg2 m c) (headOf l) r) (fun j => stg3 m c (ix3 (headOf l) j (inHead l))) * stg4 m c (ix2 l n)
      = mix (scoreR x wq k (headR (ofDev c l)) r) (fun j => v (ix4 0 j (headR (ofDev c l)) (inHeadR (ofDev c l)))) * wo (ix2 (ofDev c l) n) := by
  rw [staged_o, ho]
  refine congrArg (· * wo (ix2 (ofDev c l) n)) (congrArg₂ mix ?_ ?_)
  · funext j; exact score_agrees m x wq k hx hw hk c l r j
  · funext j; rw [staged_v, hv, block_head, inHeadR_ofDev]

include hx hw hk hv ho in
theorem sum_agrees (i : S1x2048x1024.Idx) :
    ∑ c : Dev nD, product (stg0 m c) (stg1 m c) (stg2 m c) (stg3 m c) (stg4 m c) i = answer x wq k v wo i := by
  unfold answer
  rw [sum_shares]
  exact Finset.sum_congr rfl fun c _ => Finset.sum_congr rfl fun l _ => term_agrees m x wq k v wo hx hw hk hv ho c l (i 1) (i 2)

include hx hw hk hv ho in
/-- Every device ends with the reference's answer. -/
theorem out_agrees (hf : Finite m) (c : Dev nD) : outA m c = answer x wq k v wo :=
  funext fun i => (out_apply m hf c i).trans (sum_agrees m x wq k v wo hx hw hk hv ho i)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.RunK
public import proofs.«01_k».proof.Proof.Agree
public import Idealize.ShloMosaic.Adequacy
public import Idealize.ShloMosaic.Init

@[expose] public section

noncomputable section

namespace Cert.Proof

open Idealize.ShloMosaic Idealize.SL.Sem Cert.Kernel

/-- `Kernel` runs on the four devices, its arguments end unchanged, every counter ends at zero. -/
theorem frame_kernel : Cert.quiescent_Kernel := fun m g _ =>
  (θ_run _ _ _).mono (fun _ h => ⟨fun c => (h.1 c).2, h.2⟩) (Cert.Kernel.Hand.run_main m g)

/-- The idealized kernel runs on the four devices, its arguments end unchanged, every counter ends at zero. -/
theorem frame_kernelIdeal : Cert.quiescent_KernelIdeal := fun m g _ =>
  (θ_run _ _ _).mono (fun _ h => ⟨fun c => (h.1 c).2, h.2⟩) (Cert.KernelIdeal.Hand.run_main m g)

/-- The reference runs, its arguments end unchanged; it declares no semaphore. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- Over the extended reals, where the activations, the query weights and the keys are finite: every device's result is
    the reference's. -/
theorem value : Cert.algebraic_KernelIdeal_ReferenceIdeal_pre_scores_finite_KernelIdeal := by
  intro m g m' g' hpre harg
  have hf : Cert.KernelIdeal.Hand.Finite m := fun c => Cert.Value.finite_of_pre _ _ _ _ _ (hpre c)
  refine ⟨Cert.ReferenceIdeal.Value.res_main_v39 m' 0, ?_, ?_⟩
  · refine (θ_run _ _ _).mono (fun _ h c => ⟨(h.1 c).1.trans ?_, (h.1 c).2⟩) (Cert.KernelIdeal.Hand.run_main m g)
    rw [Cert.ReferenceIdeal.Value.res_eq]
    exact Cert.KernelIdeal.Hand.out_agrees m _ _ _ _ _ (fun c => (harg c).1) (fun c => (harg c).2.1) (fun c => (harg c).2.2.1)
      (fun c => (harg c).2.2.2.1) (fun c => (harg c).2.2.2.2) hf c
  · exact (θ_run _ _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  Cert.Pre_scores_finite_KernelIdeal.facts, Cert.Pre_scores_finite_ReferenceIdeal.facts,
  frame_kernel, frame_kernelIdeal, fun m g _ => frame_kernelIdeal m g trivial,
  frame_referenceIdeal, fun m g _ => frame_referenceIdeal m g trivial,
  IdealRules.named_const.statement Cert.KernelIdeal.κ "mask" .f32 0xCE6E6B28#32 ⊥ rfl, value⟩

end Cert.Proof

end
